-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clamp_inactive [hPre_clamp_inactive : Cert.Pre_clamp_inactive.Facts] (m : (ℓ : Loc Cert.KernelIdeal.nD Cert.KernelIdeal.τ Cert.KernelIdeal.sig) → Buf (Elt Ideal) ℓ) : Prop :=
  ∀ c : Dev Cert.KernelIdeal.nD,
    (Cert.Pre_clamp_inactive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_clamp_inactive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_clamp_inactive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_clamp_inactive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_clamp_inactive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_clamp_inactive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_clamp_inactive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_clamp_inactive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 = (fun _ => 1#1)
    ∧ (Cert.Pre_clamp_inactive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.1 = (fun _ => 1#1)
    ∧ (Cert.Pre_clamp_inactive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clamp_inactive [hPre_clamp_inactive : Cert.Pre_clamp_inactive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clamp_inactive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_clamp_inactive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_clamp_inactive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_clamp_inactive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_clamp_inactive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_clamp_inactive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_clamp_inactive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_clamp_inactive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.1 = (fun _ => 1#1)
    ∧ (Cert.Pre_clamp_inactive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.1 = (fun _ => 1#1)
    ∧ (Cert.Pre_clamp_inactive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_clamp_inactive [hKernelIdeal : Cert.KernelIdeal.Facts] [hPre_clamp_inactive : Cert.Pre_clamp_inactive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clamp_inactive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_clamp_inactive [hReferenceIdeal : Cert.ReferenceIdeal.Facts] [hPre_clamp_inactive : Cert.Pre_clamp_inactive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clamp_inactive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "log2e_over_8" .f32 0x3E38AA3B#32 (((8 * (Real.log 2))⁻¹ : ℝ) : EReal)

def algebraic_KernelIdeal_ReferenceIdeal_pre_clamp_inactive [hKernelIdeal : Cert.KernelIdeal.Facts] [hReferenceIdeal : Cert.ReferenceIdeal.Facts] [hPre_clamp_inactive : Cert.Pre_clamp_inactive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clamp_inactive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_clamp_inactive : Cert.Pre_clamp_inactive.Facts),
    quiescent_Kernel (hKernel := hKernel)
    ∧ quiescent_KernelIdeal (hKernelIdeal := hKernelIdeal)
    ∧ quiescent_KernelIdeal_pre_clamp_inactive (hKernelIdeal := hKernelIdeal) (hPre_clamp_inactive := hPre_clamp_inactive)
    ∧ quiescent_ReferenceIdeal (hReferenceIdeal := hReferenceIdeal)
    ∧ quiescent_ReferenceIdeal_pre_clamp_inactive (hReferenceIdeal := hReferenceIdeal) (hPre_clamp_inactive := hPre_clamp_inactive)
    ∧ preserves_Kernel_KernelIdeal
    ∧ algebraic_KernelIdeal_ReferenceIdeal_pre_clamp_inactive (hKernelIdeal := hKernelIdeal) (hReferenceIdeal := hReferenceIdeal) (hPre_clamp_inactive := hPre_clamp_inactive)
-- ==== Pre_clamp_inactive.lean ====
abbrev S4x2048x1024 : Shape := ⟨3, ![4, 2048, 1024]⟩
abbrev S4x1x2048x2048 : Shape := ⟨4, ![4, 1, 2048, 2048]⟩
abbrev S1024x1024 : Shape := ⟨2, ![1024, 1024]⟩
abbrev S1024 : Shape := ⟨1, ![1024]⟩
abbrev S1024x2048 : Shape := ⟨2, ![1024, 2048]⟩
abbrev S2048 : Shape := ⟨1, ![2048]⟩
abbrev S2048x1024 : Shape := ⟨2, ![2048, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S4x1x2048 : Shape := ⟨3, ![4, 1, 2048]⟩

class Facts : Prop where
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  bcast_S_S4x2048x1024 : S_.BroadcastsInDim S4x2048x1024 (![] : Fin 0 → Fin S4x2048x1024.rank)
  bcast_S_S1024x1024 : S_.BroadcastsInDim S1024x1024 (![] : Fin 0 → Fin S1024x1024.rank)
  bcast_S_S1024 : S_.BroadcastsInDim S1024 (![] : Fin 0 → Fin S1024.rank)
  bcast_S_S4x1x2048x2048 : S_.BroadcastsInDim S4x1x2048x2048 (![] : Fin 0 → Fin S4x1x2048x2048.rank)
  reducesTo_S4x1x2048x2048_S4x1x2048_d3 : S4x1x2048x2048.ReducesTo [3] S4x1x2048
  bcast_S_S4x1x2048 : S_.BroadcastsInDim S4x1x2048 (![] : Fin 0 → Fin S4x1x2048.rank)
  dot_S4x2048x1024_S1024x1024_S4x2048x1024_2_0_01_1_n_n_wf : DotDims.WF S4x2048x1024 S1024x1024 S4x2048x1024 [2] [0] [0, 1] [1] [] []
  dot_S4x16x2048x64_S4x16x2048x64_S4x16x2048x2048_3_3_2_2_01_01_wf : DotDims.WF S4x16x2048x64 S4x16x2048x64 S4x16x2048x2048 [3] [3] [2] [2] [0, 1] [0, 1]

variable [Facts]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def fn_where {F : FTy → Type} [FloatOps F] (arg0 : IVec S_ 1) (arg1 : FVec F S4x2048x1 .f32) (arg2 : FVec F S_ .f32) : FVec F S4x2048x1 .f32 :=
  let v0 : FVec F S_ .f32 := id arg2
  let v1 : FVec F S4x2048x1 .f32 := broadcastInDim S4x2048x1 ![] bcast_S_S4x2048x1 v0
  let v2 : FVec F S4x2048x1 .f32 := (fun p a b => select (broadcastInDim S4x2048x1 ![] bcast_S_S4x2048x1 p) a b) arg0 arg1 v1
  v2

def fn_var {F : FTy → Type} [FloatOps F] (arg0 : FVec F S4x2048x1024 .f32) (arg1 : IVec S_ 32) : FVec F S4x2048x1 .f32 :=
  let cst : FVec F S_ .f32 := constant S_ .f32 0x00000000#32
  let v0 : FVec F S4x2048 .f32 := (fun x v => Host.reduceAdd x v reducesTo_S4x2048x1024_S4x2048_d2 h_S_) arg0 cst
  let v1 : FVec F S4x2048x1 .f32 := broadcastInDim S4x2048x1 ![0, 1] bcast_S4x2048_S4x2048x1_0_1 v0
  let cst_0 : FVec F S_ .f32 := constant S_ .f32 0x44800000#32
  let v2 : FVec F S4x2048x1 .f32 := broadcastInDim S4x2048x1 ![] bcast_S_S4x2048x1 cst_0
  let v3 : FVec F S4x2048x1 .f32 := Host.divf v1 v2
  let v4 : FVec F S4x2048x1024 .f32 := broadcastInDim S4x2048x1024 ![0, 1, 2] bcast_S4x2048x1_S4x2048x1024_0_1_2 v3
  let v5 : FVec F S4x2048x1024 .f32 := subf arg0 v4
  let v6 : FVec F S4x2048x1024 .f32 := mulf v5 v5
  let v7 : FVec F S_ .f32 := sitofp .f32 arg1
  let cst_1 : FVec F S_ .f32 := constant S_ .f32 0x44800000#32
  let v8 : FVec F S_ .f32 := subf cst_1 v7
  let cst_2 : FVec F S_ .f32 := constant S_ .f32 0x00000000#32
  let v9 : FVec F S4x2048 .f32 := (fun x v => Host.reduceAdd x v reducesTo_S4x2048x1024_S4x2048_d2 h_S_) v6 cst_2
  let v10 : FVec F S4x2048x1 .f32 := broadcastInDim S4x2048x1 ![0, 1] bcast_S4x2048_S4x2048x1_0_1 v9
  let v11 : FVec F S4x2048x1 .f32 := broadcastInDim S4x2048x1 ![] bcast_S_S4x2048x1 v8
  let v12 : FVec F S4x2048x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S4x2048x1 .f32 := fn_where (F := F) v13 v12 cst_4
  v14

def fn_part3 {F : FTy → Type} [FloatOps F] (main_v27 : FVec F S4x16x2048x2048 .f32) (main_v30 : IVec S4x2048x1024 1) (main_v33 : IVec S1024x1024 1) (main_v36 : IVec S1024x1024 1) (main_v39 : IVec S1024x1024 1) (main_v42 : IVec S1024x1024 1) (main_v45 : IVec S1024 1) (main_v48 : IVec S1024 1) (main_v53 : IVec S4x1x2048x2048 1) (main_v54 : FVec F S4x1x2048 .f32) (main_v55 : FVec F S4x1x2048 .f32) : IVec S4x2048x1024 1 × IVec S1024x1024 1 × IVec S1024x1024 1 × IVec S1024x1024 1 × IVec S1024x1024 1 × IVec S1024 1 × IVec S1024 1 × IVec S4x1x2048x2048 1 × IVec S4x1x2048 1 × IVec S4x16x2048x2048 1 :=
  let main_v56 : IVec S4x1x2048 1 := cmpf .oeq main_v54 main_v55
  let main_cst_14 : FVec F S_ .f32 := constant S_ .f32 0xC1E80000#32
  let main_v57 : FVec F S4x16x2048x2048 .f32 := broadcastInDim S4x16x2048x2048 ![] bcast_S_S4x16x2048x2048 main_cst_14
  let main_v58 : IVec S4x16x2048x2048 1 := cmpf .oge main_v27 main_v57
  let main_cst_15 : FVec F S_ .f32 := constant S_ .f32 0x41E80000#32
  let main_v59 : FVec F S4x16x2048x2048 .f32 := broadcastInDim S4x16x2048x2048 ![] bcast_S_S4x16x2048x2048 main_cst_15
  let main_v60 : IVec S4x16x2048x2048 1 := cmpf .ole main_v27 main_v59
  let main_v61 : IVec S4x16x2048x2048 1 := andi main_v58 main_v60
  (main_v30, main_v33, main_v36, main_v39, main_v42, main_v45, main_v48, main_v53, main_v56, main_v61)

def fn_part2 {F : FTy → Type} [FloatOps F] (main_arg1 : FVec F S4x1x2048x2048 .f32) (main_arg5 : FVec F S1024x1024 .f32) (main_arg6 : FVec F S1024 .f32) (main_arg7 : FVec F S1024 .f32) (main_v27 : FVec F S4x16x2048x2048 .f32) (main_v30 : IVec S4x2048x1024 1) (main_v33 : IVec S1024x1024 1) (main_v36 : IVec S1024x1024 1) (main_v37 : FVec F S1024x1024 .f32) (main_v38 : FVec F S1024x1024 .f32) : IVec S4x2048x1024 1 × IVec S1024x1024 1 × IVec S1024x1024 1 × IVec S1024x1024 1 × IVec S1024x1024 1 × IVec S1024 1 × IVec S1024 1 × IVec S4x1x2048x2048 1 × IVec S4x1x2048 1 × IVec S4x16x2048x2048 1 :=
  let main_v39 : IVec S1024x1024 1 := cmpf .olt main_v37 main_v38
  let main_v40 : FVec F S1024x1024 .f32 := Host.absf main_arg5
  let main_cst_7 : FVec F S_ .f32 := constant S_ .f32 0x7F800000#32
  let main_v41 : FVec F S1024x1024 .f32 := broadcastInDim S1024x1024 ![] bcast_S_S1024x1024 main_cst_7
  let main_v42 : IVec S1024x1024 1 := cmpf .olt main_v40 main_v41
  let main_v43 : FVec F S1024 .f32 := Host.absf main_arg6
  let main_cst_8 : FVec F S_ .f32 := constant S_ .f32 0x7F800000#32
  let main_v44 : FVec F S1024 .f32 := broadcastInDim S1024 ![] bcast_S_S1024 main_cst_8
  let main_v45 : IVec S1024 1 := cmpf .olt main_v43 main_v44
  let main_v46 : FVec F S1024 .f32 := Host.absf main_arg7
  let main_cst_9 : FVec F S_ .f32 := constant S_ .f32 0x7F800000#32
  let main_v47 : FVec F S1024 .f32 := broadcastInDim S1024 ![] bcast_S_S1024 main_cst_9
  let main_v48 : IVec S1024 1 := cmpf .olt main_v46 main_v47
  let main_cst_10 : FVec F S_ .f32 := constant S_ .f32 0x00000000#32
  let main_v49 : FVec F S4x1x2048x2048 .f32 := broadcastInDim S4x1x2048x2048 ![] bcast_S_S4x1x2048x2048 main_cst_10
  let main_v50 : IVec S4x1x2048x2048 1 := cmpf .oeq main_arg1 main_v49
  let main_cst_11 : FVec F S_ .f32 := constant S_ .f32 0xFF800000#32
  let main_v51 : FVec F S4x1x2048x2048 .f32 := broadcastInDim S4x1x2048x2048 ![] bcast_S_S4x1x2048x2048 main_cst_11
  let main_v52 : IVec S4x1x2048x2048 1 := cmpf .oeq main_arg1 main_v51
  let main_v53 : IVec S4x1x2048x2048 1 := ori main_v50 main_v52
  let main_cst_12 : FVec F S_ .f32 := constant S_ .f32 0xFF800000#32
  let main_v54 : FVec F S4x1x2048 .f32 := (fun x v => Host.reduce FloatOps.maximumf x v reducesTo_S4x1x2048x2048_S4x1x2048_d3 h_S_) main_arg1 main_cst_12
  let main_cst_13 : FVec F S_ .f32 := constant S_ .f32 0x00000000#32
  let main_v55 : FVec F S4x1x2048 .f32 := broadcastInDim S4x1x2048 ![] bcast_S_S4x1x2048 main_cst_13
  fn_part3 (F := F) main_v27 main_v30 main_v33 main_v36 main_v39 main_v42 main_v45 main_v48 main_v53 main_v54 main_v55

def fn_part1 {F : FTy → Type} [FloatOps F] (main_arg0 : FVec F S4x2048x1024 .f32) (main_arg1 : FVec F S4x1x2048x2048 .f32) (main_arg2 : FVec F S1024x1024 .f32) (main_arg3 : FVec F S1024x1024 .f32) (main_arg4 : FVec F S1024x1024 .f32) (main_arg5 : FVec F S1024x1024 .f32) (main_arg6 : FVec F S1024 .f32) (main_arg7 : FVec F S1024 .f32) (main_v17 : FVec F S4x2048x1024 .f32) (main_v19 : FVec F S4x2048x16x64 .f32) : IVec S4x2048x1024 1 × IVec S1024x1024 1 × IVec S1024x1024 1 × IVec S1024x1024 1 × IVec S1024x1024 1 × IVec S1024 1 × IVec S1024 1 × IVec S4x1x2048x2048 1 × IVec S4x1x2048 1 × IVec S4x16x2048x2048 1 :=
  let main_v20 : FVec F S4x16x2048x64 .f32 := (transpose S4x16x2048x64 [0, 2, 1, 3] · transposes_S4x2048x16x64_S4x16x2048x64_0_2_1_3) main_v19
  let main_v21 : FVec F S4x2048x1024 .f32 := (fun l r => Host.dotGeneral dot_S4x2048x1024_S1024x1024_S4x2048x1024_2_0_01_1_n_n none l r) main_v17 main_arg3
  let main_v22 : FVec F S4x2048x16x64 .f32 := shapeCast S4x2048x16x64 main_v21 shapeCasts_S4x2048x1024_S4x2048x16x64
  let main_v23 : FVec F S4x16x2048x64 .f32 := (transpose S4x16x2048x64 [0, 2, 1, 3] · transposes_S4x2048x16x64_S4x16x2048x64_0_2_1_3) main_v22
  let main_v24 : FVec F S4x16x2048x2048 .f32 := (fun l r => Host.dotGeneral dot_S4x16x2048x64_S4x16x2048x64_S4x16x2048x2048_3_3_2_2_01_01 none l r) main_v20 main_v23
  let main_cst_2 : FVec F S_ .f32 := constant S_ .f32 0x42800000#32
  let main_v25 : FVec F S_ .f32 := Host.sqrt main_cst_2
  let main_v26 : FVec F S4x16x2048x2048 .f32 := broadcastInDim S4x16x2048x2048 ![] bcast_S_S4x16x2048x2048 main_v25
  let main_v27 : FVec F S4x16x2048x2048 .f32 := Host.divf main_v24 main_v26
  let main_v28 : FVec F S4x2048x1024 .f32 := Host.absf main_arg0
  let main_cst_3 : FVec F S_ .f32 := constant S_ .f32 0x7F800000#32
  let main_v29 : FVec F S4x2048x1024 .f32 := broadcastInDim S4x2048x1024 ![] bcast_S_S4x2048x1024 main_cst_3
  let main_v30 : IVec S4x2048x1024 1 := cmpf .olt main_v28 main_v29
  let main_v31 : FVec F S1024x1024 .f32 := Host.absf main_arg2
  let main_cst_4 : FVec F S_ .f32 := constant S_ .f32 0x7F800000#32
  let main_v32 : FVec F S1024x1024 .f32 := broadcastInDim S1024x1024 ![] bcast_S_S1024x1024 main_cst_4
  let main_v33 : IVec S1024x1024 1 := cmpf .olt main_v31 main_v32
  let main_v34 : FVec F S1024x1024 .f32 := Host.absf main_arg3
  let main_cst_5 : FVec F S_ .f32 := constant S_ .f32 0x7F800000#32
  let main_v35 : FVec F S1024x1024 .f32 := broadcastInDim S1024x1024 ![] bcast_S_S1024x1024 main_cst_5
  let main_v36 : IVec S1024x1024 1 := cmpf .olt main_v34 main_v35
  let main_v37 : FVec F S1024x1024 .f32 := Host.absf main_arg4
  let main_cst_6 : FVec F S_ .f32 := constant S_ .f32 0x7F800000#32
  let main_v38 : FVec F S1024x1024 .f32 := broadcastInDim S1024x1024 ![] bcast_S_S1024x1024 main_cst_6
  fn_part2 (F := F) main_arg1 main_arg5 main_arg6 main_arg7 main_v27 main_v30 main_v33 main_v36 main_v37 main_v38

def fn {F : FTy → Type} [FloatOps F] (main_arg0 : FVec F S4x2048x1024 .f32) (main_arg1 : FVec F S4x1x2048x2048 .f32) (main_arg2 : FVec F S1024x1024 .f32) (main_arg3 : FVec F S1024x1024 .f32) (main_arg4 : FVec F S1024x1024 .f32) (main_arg5 : FVec F S1024x1024 .f32) (main_arg6 : FVec F S1024 .f32) (main_arg7 : FVec F S1024 .f32) (main_arg8 : FVec F S1024 .f32) (main_arg9 : FVec F S1024 .f32) (main_arg10 : FVec F S1024x2048 .f32) (main_arg11 : FVec F S2048 .f32) (main_arg12 : FVec F S2048x1024 .f32) (main_arg13 : FVec F S1024 .f32) : IVec S4x2048x1024 1 × IVec S1024x1024 1 × IVec S1024x1024 1 × IVec S1024x1024 1 × IVec S1024x1024 1 × IVec S1024 1 × IVec S1024 1 × IVec S4x1x2048x2048 1 × IVec S4x1x2048 1 × IVec S4x16x2048x2048 1 :=
  let main_cst : FVec F S_ .f32 := constant S_ .f32 0x00000000#32
  let main_v0 : FVec F S4x2048 .f32 := (fun x v => Host.reduceAdd x v reducesTo_S4x2048x1024_S4x2048_d2 h_S_) main_arg0 main_cst
  let main_v1 : FVec F S4x2048x1 .f32 := broadcastInDim S4x2048x1 ![0, 1] bcast_S4x2048_S4x2048x1_0_1 main_v0
  let main_cst_0 : FVec F S_ .f32 := constant S_ .f32 0x44800000#32
  let main_v2 : FVec F S4x2048x1 .f32 := broadcastInDim S4x2048x1 ![] bcast_S_S4x2048x1 main_cst_0
  let main_v3 : FVec F S4x2048x1 .f32 := Host.divf main_v1 main_v2
  let main_c : IVec S_ 32 := constantI S_ 32 0#32
  let main_v4 : FVec F S4x2048x1 .f32 := fn_var (F := F) main_arg0 main_c
  let main_v5 : FVec F S4x2048x1024 .f32 := broadcastInDim S4x2048x1024 ![0, 1, 2] bcast_S4x2048x1_S4x2048x1024_0_1_2 main_v3
  let main_v6 : FVec F S4x2048x1024 .f32 := subf main_arg0 main_v5
  let main_cst_1 : FVec F S_ .f32 := constant S_ .f32 0x3727C5AC#32
  let main_v7 : FVec F S4x2048x1 .f32 := broadcastInDim S4x2048x1 ![] bcast_S_S4x2048x1 main_cst_1
  let main_v8 : FVec F S4x2048x1 .f32 := addf main_v4 main_v7
  let main_v9 : FVec F S4x2048x1 .f32 := Host.sqrt main_v8
  let main_v10 : FVec F S4x2048x1024 .f32 := broadcastInDim S4x2048x1024 ![0, 1, 2] bcast_S4x2048x1_S4x2048x1024_0_1_2 main_v9
  let main_v11 : FVec F S4x2048x1024 .f32 := Host.divf main_v6 main_v10
  let main_v12 : FVec F S1x1x1024 .f32 := broadcastInDim S1x1x1024 ![2] bcast_S1024_S1x1x1024_2 main_arg6
  let main_v13 : FVec F S4x2048x1024 .f32 := broadcastInDim S4x2048x1024 ![0, 1, 2] bcast_S1x1x1024_S4x2048x1024_0_1_2 main_v12
  let main_v14 : FVec F S4x2048x1024 .f32 := mulf main_v11 main_v13
  let main_v15 : FVec F S1x1x1024 .f32 := broadcastInDim S1x1x1024 ![2] bcast_S1024_S1x1x1024_2 main_arg7
  let main_v16 : FVec F S4x2048x1024 .f32 := broadcastInDim S4x2048x1024 ![0, 1, 2] bcast_S1x1x1024_S4x2048x1024_0_1_2 main_v15
  let main_v17 : FVec F S4x2048x1024 .f32 := addf main_v14 main_v16
  let main_v18 : FVec F S4x2048x1024 .f32 := (fun l r => Host.dotGeneral dot_S4x2048x1024_S1024x1024_S4x2048x1024_2_0_01_1_n_n none l r) main_v17 main_arg2
  let main_v19 : FVec F S4x2048x16x64 .f32 := shapeCast S4x2048x16x64 main_v18 shapeCasts_S4x2048x1024_S4x2048x16x64
  fn_part1 (F := F) main_arg0 main_arg1 main_arg2 main_arg3 main_arg4 main_arg5 main_arg6 main_arg7 main_v17 main_v19
-- ==== Kernel.lean ====
abbrev S4x2048x1024 : Shape := ⟨3, ![4, 2048, 1024]⟩
abbrev S4x1x2048x2048 : Shape := ⟨4, ![4, 1, 2048, 2048]⟩
abbrev S1024x1024 : Shape := ⟨2, ![1024, 1024]⟩
abbrev S1024 : Shape := ⟨1, ![1024]⟩
abbrev S1024x2048 : Shape := ⟨2, ![1024, 2048]⟩
abbrev S2048 : Shape := ⟨1, ![2048]⟩
abbrev S2048x1024 : Shape := ⟨2, ![2048, 1024]⟩
abbrev S1024x16x64 : Shape := ⟨3, ![1024, 16, 64]⟩
abbrev S_ : Shape := ⟨0, ![]⟩
abbrev S1024x16x128 : Shape := ⟨3, ![1024, 16, 128]⟩
abbrev S1x16x64 : Shape := ⟨3, ![1, 16, 64]⟩
abbrev S1x16x128 : Shape := ⟨3, ![1, 16, 128]⟩
abbrev S1x2048 : Shape := ⟨2, ![1, 2048]⟩
abbrev S1024x4096 : Shape := ⟨2, ![1024, 4096]⟩
abbrev S1x1024 : Shape := ⟨2, ![1, 1024]⟩
abbrev S4x2048x2048 : Shape := ⟨3, ![4, 2048, 2048]⟩
abbrev S1x512x1024 : Shape := ⟨3, ![1, 512, 1024]⟩
abbrev S1x512x2048 : Shape := ⟨3, ![1, 512, 2048]⟩
abbrev S2048x2048 : Shape := ⟨2, ![2048, 2048]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩
abbrev S1024x512 : Shape := ⟨2, ![1024, 512]⟩
abbrev S512x2048 : Shape := ⟨2, ![512, 2048]⟩
abbrev S512x64 : Shape := ⟨2, ![512, 64]⟩
abbrev S64x2048 : Shape := ⟨2, ![64, 2048]⟩
abbrev S2048x128 : Shape := ⟨2, ![2048, 128]⟩
abbrev S512x128 : Shape := ⟨2, ![512, 128]⟩

abbrev nBuf : Space → Nat
  | .hbm => 38
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S4x1x2048x2048, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x2048, .f32⟩
  | .hbm, ⟨11, _⟩ => ⟨S2048, .f32⟩
  | .hbm, ⟨12, _⟩ => ⟨S2048x1024, .f32⟩
  | .hbm, ⟨13, _⟩ => ⟨S1024, .f32⟩
  | .hbm, ⟨14, _⟩ => ⟨S1024x16x64, .f32⟩
  | .hbm, ⟨15, _⟩ => ⟨S_, .f32⟩
  | .hbm, ⟨16, _⟩ => ⟨S1024x16x64, .f32⟩
  | .hbm, ⟨17, _⟩ => ⟨S1024x16x128, .f32⟩
  | .hbm, ⟨18, _⟩ => ⟨S1024x2048, .f32⟩
  | .hbm, ⟨19, _⟩ => ⟨S_, .f32⟩
  | .hbm, ⟨20, _⟩ => ⟨S1x16x64, .f32⟩
  | .hbm, ⟨21, _⟩ => ⟨S_, .f32⟩
  | .hbm, ⟨22, _⟩ => ⟨S1x16x64, .f32⟩
  | .hbm, ⟨23, _⟩ => ⟨S1x16x128, .f32⟩
  | .hbm, ⟨24, _⟩ => ⟨S1x2048, .f32⟩
  | .hbm, ⟨25, _⟩ => ⟨S1024x4096, .f32⟩
  | .hbm, ⟨26, _⟩ => ⟨S1024x4096, .bf16⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x2048, .f32⟩
  | .hbm, ⟨32, _⟩ => ⟨S1x1024, .f32⟩
  | .hbm, ⟨33, _⟩ => ⟨S4x2048x2048, .f32⟩
  | .hbm, ⟨34, _⟩ => ⟨S1024x1024, .bf16⟩
  | .hbm, ⟨35, _⟩ => ⟨S1024x2048, .bf16⟩
  | .hbm, ⟨36, _⟩ => ⟨S2048x1024, .bf16⟩
  | .hbm, ⟨37, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x2048, .f32⟩
  | .local _ .vmem, ⟨3, _⟩ => ⟨S1x512x2048, .f32⟩
  | .local _ .vmem, ⟨4, _⟩ => ⟨S1024x4096, .bf16⟩
  | .local _ .vmem, ⟨5, _⟩ => ⟨S1x2048, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x2048, .bf16⟩
  | .local _ .vmem, ⟨12, _⟩ => ⟨S1x2048, .f32⟩
  | .local _ .vmem, ⟨13, _⟩ => ⟨S2048x1024, .bf16⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | .local _ .vmem, ⟨17, _⟩ => ⟨S2048x1024, .bf16⟩
  | .local _ .vmem, ⟨18, _⟩ => ⟨S1024x2048, .bf16⟩
  | .local _ .vmem, ⟨19, _⟩ => ⟨S2048x2048, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg1 : BitVec 32 := BitVec.ofNat 32 (i 1).val
  let c512_i32 : BitVec 32 := 512#32
  let v38 : BitVec 32 := Scalar.muli arg1 c512_i32
  let v43 : Index := Scalar.indexCast v38
  let c0_16 : Index := 0#32
  ![v43.toNat, 0]
def k0_off2 (i : grid0.Coords) : Fin 2 → Nat :=
  let c0_17 : Index := 0#32
  let arg1 : BitVec 32 := BitVec.ofNat 32 (i 1).val
  let c512_i32 : BitVec 32 := 512#32
  let v38 : BitVec 32 := Scalar.muli arg1 c512_i32
  let v50 : Index := Scalar.indexCast v38
  ![0, v50.toNat]
def k0_off3 (i : grid0.Coords) : Fin 2 → Nat :=
  let arg1 : BitVec 32 := BitVec.ofNat 32 (i 1).val
  let c512_i32 : BitVec 32 := 512#32
  let v38 : BitVec 32 := Scalar.muli arg1 c512_i32
  let v60 : Index := Scalar.indexCast v38
  let c0_20 : Index := 0#32
  ![v60.toNat, 0]
def k0_cond2 (i : grid0.Coords) : BitVec 1 :=
  let arg1 : BitVec 32 := BitVec.ofNat 32 (i 1).val
  let c4_i32_0 : BitVec 32 := 4#32
  let v3 : BitVec 1 := Scalar.cmpi .sge arg1 c4_i32_0
  let v4 : BitVec 32 := Scalar.extui v3
  let c0_i32_1 : BitVec 32 := 0#32
  let v5 : BitVec 1 := Scalar.cmpi .ne v4 c0_i32_1
  v5

def k0_off4 (i : grid0.Coords) : Fin 2 → Nat :=
  let arg1 : BitVec 32 := BitVec.ofNat 32 (i 1).val
  let c4_i32_4 : BitVec 32 := 4#32
  let v9 : BitVec 32 := Scalar.subi arg1 c4_i32_4
  let c512_i32 : BitVec 32 := 512#32
  let v10 : BitVec 32 := Scalar.muli v9 c512_i32
  let v11 : Index := Scalar.indexCast v10
  let c0_5 : Index := 0#32
  ![v11.toNat, 0]
def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c4_i32_0 : BitVec 32 := 4#32
  let v1 : BitVec 32 := Scalar.subi arg1 c4_i32_0
  let v2 : BitVec 32 := Scalar.select v0 arg1 v1
  let c0_i32 : BitVec 32 := 0#32
  let c0_i32_1 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "log2e_over_8" => some (((8 * (Real.log 2))⁻¹ : ℝ) : EReal)
  | _ => none
-- ==== ReferenceIdeal.lean ====
abbrev S4x2048x1024 : Shape := ⟨3, ![4, 2048, 1024]⟩
abbrev S4x1x2048x2048 : Shape := ⟨4, ![4, 1, 2048, 2048]⟩
abbrev S1024x1024 : Shape := ⟨2, ![1024, 1024]⟩
abbrev S1024 : Shape := ⟨1, ![1024]⟩
abbrev S1024x2048 : Shape := ⟨2, ![1024, 2048]⟩
abbrev S2048 : Shape := ⟨1, ![2048]⟩
abbrev S2048x1024 : Shape := ⟨2, ![2048, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩
abbrev S4x2048x2048 : Shape := ⟨3, ![4, 2048, 2048]⟩
abbrev S1x1x2048 : Shape := ⟨3, ![1, 1, 2048]⟩

abbrev nBuf : Space → Nat
  | .hbm => 163
  | .vmem => 0
  | .smem => 0
  | _ => 0

abbrev hbmTy0_0 (i : Nat) : BufTy := match i % 128 with
  | 0 => ⟨S4x2048x1024, .f32⟩
  | 1 => ⟨S4x1x2048x2048, .f32⟩
  | 2 => ⟨S1024x1024, .f32⟩
  | 3 => ⟨S1024x1024, .f32⟩
  | 4 => ⟨S1024x1024, .f32⟩
  | 5 => ⟨S1024x1024, .f32⟩
  | 6 => ⟨S1024, .f32⟩
  | 7 => ⟨S1024, .f32⟩
  | 8 => ⟨S1024, .f32⟩
  | 9 => ⟨S1024, .f32⟩
  | 10 => ⟨S1024x2048, .f32⟩
  | 11 => ⟨S2048, .f32⟩
  | 12 => ⟨S2048x1024, .f32⟩
  | 13 => ⟨S1024, .f32⟩
  | 14 => ⟨S_, .f32⟩
  | 15 => ⟨S4x2048, .f32⟩
  | 16 => ⟨S4x2048x1, .f32⟩
  | 17 => ⟨S_, .f32⟩
  | 18 => ⟨S4x2048x1, .f32⟩
  | 19 => ⟨S4x2048x1, .f32⟩
  | 20 => ⟨S_, .i32⟩
  | 21 => ⟨S_, .f32⟩
  | 22 => ⟨S4x2048, .f32⟩
  | 23 => ⟨S4x2048x1, .f32⟩
  | 24 => ⟨S_, .f32⟩
  | 25 => ⟨S4x2048x1, .f32⟩
  | 26 => ⟨S4x2048x1, .f32⟩
  | 27 => ⟨S4x2048x1024, .f32⟩
  | 28 => ⟨S4x2048x1024, .f32⟩
  | 29 => ⟨S4x2048x1024, .f32⟩
  | 30 => ⟨S_, .f32⟩
  | 31 => ⟨S_, .f32⟩
  | 32 => ⟨S_, .f32⟩
  | 33 => ⟨S_, .f32⟩
  | 34 => ⟨S4x2048, .f32⟩
  | 35 => ⟨S4x2048x1, .f32⟩
  | 36 => ⟨S4x2048x1, .f32⟩
  | 37 => ⟨S4x2048x1, .f32⟩
  | 38 => ⟨S_, .f32⟩
  | 39 => ⟨S_, .i1⟩
  | 40 => ⟨S_, .f32⟩
  | 41 => ⟨S_, .f32⟩
  | 42 => ⟨S4x2048x1, .f32⟩
  | 43 => ⟨S4x2048x1, .f32⟩
  | 44 => ⟨S4x2048x1024, .f32⟩
  | 45 => ⟨S4x2048x1024, .f32⟩
  | 46 => ⟨S_, .f32⟩
  | 47 => ⟨S4x2048x1, .f32⟩
  | 48 => ⟨S4x2048x1, .f32⟩
  | 49 => ⟨S4x2048x1, .f32⟩
  | 50 => ⟨S4x2048x1024, .f32⟩
  | 51 => ⟨S4x2048x1024, .f32⟩
  | 52 => ⟨S1x1x1024, .f32⟩
  | 53 => ⟨S4x2048x1024, .f32⟩
  | 54 => ⟨S4x2048x1024, .f32⟩
  | 55 => ⟨S1x1x1024, .f32⟩
  | 56 => ⟨S4x2048x1024, .f32⟩
  | 57 => ⟨S4x2048x1024, .f32⟩
  | 58 => ⟨S4x2048x1024, .f32⟩
  | 59 => ⟨S4x2048x16x64, .f32⟩
  | 60 => ⟨S4x16x2048x64, .f32⟩
  | 61 => ⟨S4x2048x1024, .f32⟩
  | 62 => ⟨S4x2048x16x64, .f32⟩
  | 63 => ⟨S4x16x2048x64, .f32⟩
  | 64 => ⟨S4x2048x1024, .f32⟩
  | 65 => ⟨S4x2048x16x64, .f32⟩
  | 66 => ⟨S4x16x2048x64, .f32⟩
  | 67 => ⟨S4x16x2048x2048, .f32⟩
  | 68 => ⟨S_, .f32⟩
  | 69 => ⟨S_, .f32⟩
  | 70 => ⟨S4x16x2048x2048, .f32⟩
  | 71 => ⟨S4x16x2048x2048, .f32⟩
  | 72 => ⟨S4x16x2048x2048, .f32⟩
  | 73 => ⟨S4x16x2048x2048, .f32⟩
  | 74 => ⟨S_, .f32⟩
  | 75 => ⟨S4x16x2048, .f32⟩
  | 76 => ⟨S_, .f32⟩
  | 77 => ⟨S4x16x2048, .f32⟩
  | 78 => ⟨S4x16x2048, .f32⟩
  | 79 => ⟨S4x16x2048x1, .f32⟩
  | 80 => ⟨S4x16x2048x2048, .f32⟩
  | 81 => ⟨S4x16x2048x2048, .f32⟩
  | 82 => ⟨S4x16x2048x2048, .f32⟩
  | 83 => ⟨S_, .f32⟩
  | 84 => ⟨S4x16x2048, .f32⟩
  | 85 => ⟨S4x16x2048x1, .f32⟩
  | 86 => ⟨S4x16x2048x2048, .f32⟩
  | 87 => ⟨S4x16x2048x2048, .f32⟩
  | 88 => ⟨S4x16x2048x64, .f32⟩
  | 89 => ⟨S4x2048x16x64, .f32⟩
  | 90 => ⟨S4x2048x1024, .f32⟩
  | 91 => ⟨S4x2048x1024, .f32⟩
  | 92 => ⟨S4x2048x1024, .f32⟩
  | 93 => ⟨S_, .f32⟩
  | 94 => ⟨S4x2048, .f32⟩
  | 95 => ⟨S4x2048x1, .f32⟩
  | 96 => ⟨S_, .f32⟩
  | 97 => ⟨S4x2048x1, .f32⟩
  | 98 => ⟨S4x2048x1, .f32⟩
  | 99 => ⟨S_, .i32⟩
  | 100 => ⟨S_, .f32⟩
  | 101 => ⟨S4x2048, .f32⟩
  | 102 => ⟨S4x2048x1, .f32⟩
  | 103 => ⟨S_, .f32⟩
  | 104 => ⟨S4x2048x1, .f32⟩
  | 105 => ⟨S4x2048x1, .f32⟩
  | 106 => ⟨S4x2048x1024, .f32⟩
  | 107 => ⟨S4x2048x1024, .f32⟩
  | 108 => ⟨S4x2048x1024, .f32⟩
  | 109 => ⟨S_, .f32⟩
  | 110 => ⟨S_, .f32⟩
  | 111 => ⟨S_, .f32⟩
  | 112 => ⟨S_, .f32⟩
  | 113 => ⟨S4x2048, .f32⟩
  | 114 => ⟨S4x2048x1, .f32⟩
  | 115 => ⟨S4x2048x1, .f32⟩
  | 116 => ⟨S4x2048x1, .f32⟩
  | 117 => ⟨S_, .f32⟩
  | 118 => ⟨S_, .i1⟩
  | 119 => ⟨S_, .f32⟩
  | 120 => ⟨S_, .f32⟩
  | 121 => ⟨S4x2048x1, .f32⟩
  | 122 => ⟨S4x2048x1, .f32⟩
  | 123 => ⟨S4x2048x1024, .f32⟩
  | 124 => ⟨S4x2048x1024, .f32⟩
  | 125 => ⟨S_, .f32⟩
  | 126 => ⟨S4x2048x1, .f32⟩
  | 127 => ⟨S4x2048x1, .f32⟩
  | _ => ⟨S4x2048x1024, .f32⟩

abbrev hbmTy0_1 (i : Nat) : BufTy := match i % 128 with
  | 0 => ⟨S4x2048x1, .f32⟩
  | 1 => ⟨S4x2048x1024, .f32⟩
  | 2 => ⟨S4x2048x1024, .f32⟩
  | 3 => ⟨S1x1x1024, .f32⟩
  | 4 => ⟨S4x2048x1024, .f32⟩
  | 5 => ⟨S4x2048x1024, .f32⟩
  | 6 => ⟨S1x1x1024, .f32⟩
  | 7 => ⟨S4x2048x1024, .f32⟩
  | 8 => ⟨S4x2048x1024, .f32⟩
  | 9 => ⟨S4x2048x2048, .f32⟩
  | 10 => ⟨S1x1x2048, .f32⟩
  | 11 => ⟨S4x2048x2048, .f32⟩
  | 12 => ⟨S4x2048x2048, .f32⟩
  | 13 => ⟨S4x2048x2048, .f32⟩
  | 14 => ⟨S4x2048x2048, .f32⟩
  | 15 => ⟨S_, .f32⟩
  | 16 => ⟨S4x2048x2048, .f32⟩
  | 17 => ⟨S4x2048x2048, .f32⟩
  | 18 => ⟨S4x2048x2048, .f32⟩
  | 19 => ⟨S_, .f32⟩
  | 20 => ⟨S4x2048x2048, .f32⟩
  | 21 => ⟨S4x2048x2048, .f32⟩
  | 22 => ⟨S4x2048x2048, .f32⟩
  | 23 => ⟨S_, .f32⟩
  | 24 => ⟨S4x2048x2048, .f32⟩
  | 25 => ⟨S4x2048x2048, .f32⟩
  | 26 => ⟨S_, .f32⟩
  | 27 => ⟨S4x2048x2048, .f32⟩
  | 28 => ⟨S4x2048x2048, .f32⟩
  | 29 => ⟨S4x2048x2048, .f32⟩
  | 30 => ⟨S4x2048x1024, .f32⟩
  | 31 => ⟨S1x1x1024, .f32⟩
  | 32 => ⟨S4x2048x1024, .f32⟩
  | 33 => ⟨S4x2048x1024, .f32⟩
  | 34 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_cst_2 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_cst_3 : Ref sig .tc := ⟨.hbm, 38, rfl⟩
abbrev main_call0_v13 : Ref sig .tc := ⟨.hbm, 39, rfl⟩
abbrev main_call0_cst_4 : Ref sig .tc := ⟨.hbm, 40, rfl⟩
abbrev main_call0_call0_v0 : Ref sig .tc := ⟨.hbm, 41, rfl⟩
abbrev main_call0_call0_v1 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_cst_1 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_cst_2 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_cst_3 : Ref sig .tc := ⟨.hbm, 74, rfl⟩
abbrev main_v33 : Ref sig .tc := ⟨.hbm, 75, rfl⟩
abbrev main_cst_4 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_5 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_cst_6 : Ref sig .tc := ⟨.hbm, 93, rfl⟩
abbrev main_v49 : Ref sig .tc := ⟨.hbm, 94, rfl⟩
abbrev main_v50 : Ref sig .tc := ⟨.hbm, 95, rfl⟩
abbrev main_cst_7 : Ref sig .tc := ⟨.hbm, 96, rfl⟩
abbrev main_v51 : Ref sig .tc := ⟨.hbm, 97, rfl⟩
abbrev main_v52 : Ref sig .tc := ⟨.hbm, 98, rfl⟩
abbrev main_c_8 : Ref sig .tc := ⟨.hbm, 99, rfl⟩
abbrev main_call1_cst : Ref sig .tc := ⟨.hbm, 100, rfl⟩
abbrev main_call1_v0 : Ref sig .tc := ⟨.hbm, 101, rfl⟩
abbrev main_call1_v1 : Ref sig .tc := ⟨.hbm, 102, rfl⟩
abbrev main_call1_cst_0 : Ref sig .tc := ⟨.hbm, 103, rfl⟩
abbrev main_call1_v2 : Ref sig .tc := ⟨.hbm, 104, rfl⟩
abbrev main_call1_v3 : Ref sig .tc := ⟨.hbm, 105, rfl⟩
abbrev main_call1_v4 : Ref sig .tc := ⟨.hbm, 106, rfl⟩
abbrev main_call1_v5 : Ref sig .tc := ⟨.hbm, 107, rfl⟩
abbrev main_call1_v6 : Ref sig .tc := ⟨.hbm, 108, rfl⟩
abbrev main_call1_v7 : Ref sig .tc := ⟨.hbm, 109, rfl⟩
abbrev main_call1_cst_1 : Ref sig .tc := ⟨.hbm, 110, rfl⟩
abbrev main_call1_v8 : Ref sig .tc := ⟨.hbm, 111, rfl⟩
abbrev main_call1_cst_2 : Ref sig .tc := ⟨.hbm, 112, rfl⟩
abbrev main_call1_v9 : Ref sig .tc := ⟨.hbm, 113, rfl⟩
abbrev main_call1_v10 : Ref sig .tc := ⟨.hbm, 114, rfl⟩
abbrev main_call1_v11 : Ref sig .tc := ⟨.hbm, 115, rfl⟩
abbrev main_call1_v12 : Ref sig .tc := ⟨.hbm, 116, rfl⟩
abbrev main_call1_cst_3 : Ref sig .tc := ⟨.hbm, 117, rfl⟩
abbrev main_call1_v13 : Ref sig .tc := ⟨.hbm, 118, rfl⟩
abbrev main_call1_cst_4 : Ref sig .tc := ⟨.hbm, 119, rfl⟩
abbrev main_call1_call0_v0 : Ref sig .tc := ⟨.hbm, 120, rfl⟩
abbrev main_call1_call0_v1 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_cst_9 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_cst_10 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_cst_11 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_cst_12 : Ref sig .tc := ⟨.hbm, 151, rfl⟩
abbrev main_v79 : Ref sig .tc := ⟨.hbm, 152, rfl⟩
abbrev main_v80 : Ref sig .tc := ⟨.hbm, 153, rfl⟩
abbrev main_cst_13 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩

abbrev nD : Nat := 1
abbrev τ : Topo := Topo.v7x

variable {F : FTy → Type} [FloatOps F]
-- ==== Proof.Conds.lean ====
/- What the runs of the kernel's body are stated over: the two branch conditions in closed form over the grid points,
   where the windows are idle and written back, the staging and scratch memrefs, and the launch's invariant with the
   three scratch buffers as memrefs. -/
module

public import proofs.«01_k».proof.Proof.Gen.KernelIdeal.Frame
public import proofs.«01_k».proof.Proof.Gen.KernelIdeal.Skeleton
public import Idealize.ShloMosaic.Lib.VecWindow
public import Idealize.ShloMosaic.Lib.WritesUnit

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the points whose coordinates have i1 ≤ 3 — decided over the grid. -/
theorem hcond0_0 : ∀ t : Fin cfg0.N, cond0_0 (grid0.coords t) ↔ t.val % 8 ≤ 3 :=
  (by decide +kernel : ∀ t : Fin grid0.N, cond0_0 (grid0.coords t) ↔ t.val % 8 ≤ 3)

/-- The condition of the body's `scf.if` 1 (`k0_h2`), from the grid coordinates (the skeleton's scalar
    chain substituted). -/
abbrev cond0_1 (i : grid0.Coords) : Prop := k0_cond2 i = 1#1
/-- It holds at the points whose coordinates have 4 ≤ i1 — decided over the grid. -/
theorem hcond0_1 : ∀ t : Fin cfg0.N, cond0_1 (grid0.coords t) ↔ 4 ≤ t.val % 8 :=
  (by decide +kernel : ∀ t : Fin grid0.N, cond0_1 (grid0.coords t) ↔ 4 ≤ t.val % 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- The result's window is idle exactly at the points of the first phase, -/
theorem idleAt0_13 : ∀ t : Fin cfg0.N, cfg0.idle 13 (grid0.coords t) = decide (t.val % 8 ≤ 3) :=
  (by decide +kernel : ∀ t : Fin grid0.N, idle0 13 (grid0.coords t) = decide (t.val % 8 ≤ 3))
/-- and written back exactly at the points of the second. -/
theorem flushAt0_13 : ∀ t : Fin cfg0.N, (cfg0.win 13).flush t = decide (4 ≤ t.val % 8) :=
  (by decide +kernel : ∀ t : Fin grid0.N, win0_13.flush t = decide (4 ≤ t.val % 8))
/-! ## The kernel body on any staging memrefs: a subtype the run finds -/

/-- Each window's current staging memref at point `t`, spelled as the pipeline passes it (`bodyAt0`), and its wholeness. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x2048 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2048x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512x1024 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S2048x1024 .bf16 := Memref.whole cc0_scratch0
abbrev scM0_1 : Memref sig .tc .vmem S1024x2048 .bf16 := Memref.whole cc0_scratch1
abbrev scM0_2 : Memref sig .tc .vmem S2048x2048 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.Loads.lean ====
/- What a load from, or a store into, a whole buffer with known contents leaves. -/
module

public import proofs.«01_k».proof.Proof.Conds

@[expose] public section

noncomputable section

namespace Cert.KernelIdeal.Gen

open Idealize.ShloMosaic

variable {Val : EltTy → Type} {sg : RefSig} {κ' : Kind} {sp : Space} {s : Shape} {e : EltTy} {M : Memref sg κ' sp s e}

/-- A load of the whole buffer reads its contents. -/
theorem load_full (h : M.IsWhole) (X : s.Idx → Val e) {off : Fin s.rank → ℕ} (inb : ∀ a, off a + s.size a ≤ s.size a) :
    View.readAt Val M.view (Rect.unit off (no_index s.size) inb).toLoadRect (h.unread X) = X :=
  (View.readAt_full _ _ inb).trans (h.read_unread X)

/-- A load of a rectangle reads that window of the contents. -/
theorem load_window (h : M.IsWhole) (X : s.Idx → Val e) {off size : Fin s.rank → ℕ} (inb : ∀ a, off a + size a ≤ s.size a) :
    View.readAt Val M.view (Rect.unit off size inb).toLoadRect (h.unread X) = VecWindow.window X off size inb := by
  rw [View.readAt_unit _ _ inb rfl inb, h.read_unread]

/-- One store of a rectangle leaves the earlier contents with that rectangle replaced. -/
theorem store_put (h : M.IsWhole) (X : s.Idx → Val e) {off size : Fin s.rank → ℕ} (inb : ∀ a, off a + size a ≤ s.size a)
    (w : (Rect.unit off size inb).shape.Idx → Val e) :
    View.read Val M.view (M.view.writes Val (h.unread X) [⟨Rect.unit off size inb, w⟩]) = VecWindow.put X off size w := by
  rw [View.read_writes_cons_put _ _ _ _ _ rfl, View.writes_nil, h.read_unread]

/-- One store of the whole buffer leaves what was stored. -/
theorem store_full (h : M.IsWhole) (X : s.Idx → Val e) {off : Fin s.rank → ℕ} (inb : ∀ a, off a + s.size a ≤ s.size a)
    (w : (Rect.unit off s.size inb).shape.Idx → Val e) :
    View.read Val M.view (M.view.writes Val (h.unread X) [⟨Rect.unit off s.size inb, w⟩]) = w :=
  View.read_writes_full _ _ inb w []

end Cert.KernelIdeal.Gen

end
-- ==== Proof.RunA.lean ====
module

public import proofs.«01_k».proof.Proof.Loads

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a point of the FIRST phase: from the inputs' blocks and any contents of the three scratch buffers, each
    scratch buffer is left with this block's queries, transposed keys and widened values put at its place, and everything
    else as it was. -/
theorem kernelRun0_A (c : Dev nD) (i : grid0.Coords) (arg2 : Memref sig .tc .vmem S1x512x1024 .f32) (harg2 : arg2.IsWhole) (arg3 : Memref sig .tc .vmem S1x512x2048 .f32) (harg3 : arg3.IsWhole) (arg4 : Memref sig .tc .vmem S1024x4096 .bf16) (harg4 : arg4.IsWhole) (arg5 : Memref sig .tc .vmem S1x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x2048 .bf16) (harg11 : arg11.IsWhole) (arg12 : Memref sig .tc .vmem S1x2048 .f32) (harg12 : arg12.IsWhole) (arg13 : Memref sig .tc .vmem S2048x1024 .bf16) (harg13 : arg13.IsWhole) (arg14 : Memref sig .tc .vmem S1x1024 .f32) (harg14 : arg14.IsWhole) (arg15 : Memref sig .tc .vmem S1x512x1024 .f32) (harg15 : arg15.IsWhole) (arg16 : Memref sig .tc .vmem S2048x1024 .bf16) (harg16 : arg16.IsWhole) (arg17 : Memref sig .tc .vmem S1024x2048 .bf16) (harg17 : arg17.IsWhole) (arg18 : Memref sig .tc .vmem S2048x2048 .bf16) (harg18 : arg18.IsWhole) (hc0 : cond0_0 i) (hc1 : ¬cond0_1 i)
    (x0 : Vec F S1x512x1024 .f32) (x1 : Vec F S1x512x2048 .f32) (x2 : Vec F S1024x4096 .bf16) (x3 : Vec F S1x2048 .f32) (x4 : Vec F S1x1024 .f32) (x5 : Vec F S1x1024 .f32) (x6 : Vec F S1024x1024 .bf16) (x7 : Vec F S1x1024 .f32) (x8 : Vec F S1x1024 .f32) (x9 : Vec F S1024x2048 .bf16) (x10 : Vec F S1x2048 .f32) (x11 : Vec F S2048x1024 .bf16) (x12 : Vec F S1x1024 .f32) (x13 : Vec F S1x512x1024 .f32)
    (d0 : Vec F S2048x1024 .bf16) (d1 : Vec F S1024x2048 .bf16) (d2 : Vec F S2048x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare d0 ∗ owns (c : Thread nD τ) arg17 fullShare d1 ∗ owns (c : Thread nD τ) arg18 fullShare d2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (VecWindow.put d0 (k0_off1 i) S512x1024.size (k0_pay4 x0 x4 x5 x2)) ∗ owns (c : Thread nD τ) arg17 fullShare (VecWindow.put d1 (k0_off2 i) S1024x512.size (k0_pay1 (k0_pay3 x0 x4 x5 x2))) ∗ owns (c : Thread nD τ) arg18 fullShare (VecWindow.put d2 (k0_off3 i) S512x2048.size (k0_pay2 (k0_pay3 x0 x4 x5 x2) x3))) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0__fused_body_eq_skeleton]; unfold cc0__fused_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fs0, %hs0, HS0⟩, ⟨%fs1, %hs1, HS1⟩, ⟨%fs2, %hs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hs0; obtain rfl := harg17.eq_unread hs1; obtain rfl := harg18.eq_unread hs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [HS0]
    · iexists _; isplitr; swap; · iexact HS0
      ipureintro
      refine (store_put harg16 _ _ _).trans ?_
      simp only [load_full]
    isplitl [HS1]
    · iexists _; isplitr; swap; · iexact HS1
      ipureintro
      refine (store_put harg17 _ _ _).trans ?_
      sl_unfold_run_names
      simp only [load_full]
    iexists _; isplitr; swap; · iexact HS2
    ipureintro
    refine (store_put harg18 _ _ _).trans ?_
    sl_unfold_run_names
    simp only [load_full]

end Cert.KernelIdeal.Gen

end
-- ==== Proof.OutB.lean ====
/- What one point of the second phase computes from the scratch buffers: the heads' attention one after another and the
   block of the result, in terms of the printed payloads. -/
module

public import proofs.«01_k».proof.Proof.Loads

@[expose] public section

set_option maxRecDepth 16384

noncomputable section

namespace Cert.KernelIdeal.Gen

open Idealize.ShloMosaic

variable {F : FTy → Type} [FloatOps F] [Named F]

/-- The columns of head `h` lie inside the queries. -/
theorem qcols : ∀ h : Fin 16, S512x1024.Slices ![0, 64 * h.val] S512x64 := by decide
/-- The rows of head `h` lie inside the transposed keys. -/
theorem krows : ∀ (h : Fin 16) (a : Fin 2), (![64 * h.val, 0] : Fin 2 → ℕ) a + S64x2048.size a ≤ S1024x2048.size a := by decide
/-- The columns of head `h` lie inside the widened values. -/
theorem vcols : ∀ (h : Fin 16) (a : Fin 2), (![0, 128 * h.val] : Fin 2 → ℕ) a + S2048x128.size a ≤ S2048x2048.size a := by decide

/-- Head `h` of one block of query rows. -/
def headB (mask : FVec F S512x2048 .bf16) (q : Vec F S512x1024 .bf16) (kt : Vec F S1024x2048 .bf16) (v : Vec F S2048x2048 .bf16)
    (h : Fin 16) : FVec F S512x64 .f32 :=
  k0_pay9 mask (extractStridedSlice S512x64 ![0, 64 * h.val] q (qcols h))
    (VecWindow.window kt ![64 * h.val, 0] S64x2048.size (krows h)) (VecWindow.window v ![0, 128 * h.val] S2048x128.size (vcols h))

/-- The block's rows after the attention and the first residual sum. -/
def xoB (x0 : Vec F S1x512x1024 .f32) (mask : FVec F S512x2048 .bf16) (q : Vec F S512x1024 .bf16) (kt : Vec F S1024x2048 .bf16)
    (v : Vec F S2048x2048 .bf16) (wo : Vec F S1024x1024 .bf16) : FVec F S512x1024 .f32 :=
  k0_pay29 mask (headB mask q kt v 0) (headB mask q kt v 1) (headB mask q kt v 2) (headB mask q kt v 3) (headB mask q kt v 4)
    (headB mask q kt v 5) (headB mask q kt v 6) (headB mask q kt v 7) (headB mask q kt v 8) (headB mask q kt v 9)
    (headB mask q kt v 10) (headB mask q kt v 11) (headB mask q kt v 12) (headB mask q kt v 13) (headB mask q kt v 14)
    (k0_pay28 q) (VecWindow.window kt ![960, 0] S64x2048.size inb_S1024x2048_S64x2048_960_0)
    (VecWindow.window v ![0, 1920] S2048x128.size inb_S2048x2048_S2048x128_0_1920) x0 wo

/-- The row means of a block. -/
def muB (xo : FVec F S512x1024 .f32) : FVec F S512x1 .f32 :=
  divf (shapeCast S512x1 (multiReduction .add [1] S512 xo 0x00000000#32 reduces_S512x1024_S512 (.inl rfl) rfl) shapeCasts_S512_S512x1)
    (broadcast S512x1 (Scalar.ofBits .f32 0x44800000#32))

/-- The row variances of a block, as the mean of the squares less the square of the mean. -/
def varB (xo : FVec F S512x1024 .f32) : FVec F S512x1 .f32 :=
  subf (muB (mulf xo xo)) (mulf (muB xo) (muB xo))

/-- A block with its row means subtracted. -/
def cenB (xo : FVec F S512x1024 .f32) : FVec F S512x1024 .f32 :=
  subf xo (broadcastTo S512x1024 (muB xo) broadcasts_S512x1_S512x1024)

/-- The block of the result that one point of the second phase writes. -/
def outB (x0 : Vec F S1x512x1024 .f32) (x1 : Vec F S1x512x2048 .f32) (wo : Vec F S1024x1024 .bf16) (g2 b2 : Vec F S1x1024 .f32)
    (w1 : Vec F S1024x2048 .bf16) (bias1 : Vec F S1x2048 .f32) (w2 : Vec F S2048x1024 .bf16) (bias2 : Vec F S1x1024 .f32)
    (q : Vec F S512x1024 .bf16) (kt : Vec F S1024x2048 .bf16) (v : Vec F S2048x2048 .bf16) : FVec F S1x512x1024 .f32 :=
  k0_pay35 (xoB x0 (k0_pay5 x1) q kt v wo) (k0_pay30 g2) (k0_pay31 b2) (varB (xoB x0 (k0_pay5 x1) q kt v wo))
    (cenB (xoB x0 (k0_pay5 x1) q kt v wo)) w1 bias1 w2 bias2

variable (x1 : Vec F S1x512x2048 .f32) (m : FVec F S512x2048 .bf16) (q : Vec F S512x1024 .bf16) (k : Vec F S64x2048 .bf16)
  (v : Vec F S2048x128 .bf16)

/-! Each printed head computation is the same one at its own columns of the queries. -/

theorem pay6_eq : k0_pay6 x1 q k v = k0_pay9 (k0_pay5 x1) (extractStridedSlice S512x64 ![0, 0] q slices_S512x1024_o0_0_S512x64) k v := rfl
theorem pay7_eq : k0_pay7 x1 q k v = k0_pay9 (k0_pay5 x1) (extractStridedSlice S512x64 ![0, 64] q slices_S512x1024_o0_64_S512x64) k v := rfl
theorem pay8_eq : k0_pay8 q = extractStridedSlice S512x64 ![0, 128] q slices_S512x1024_o0_128_S512x64 := rfl
theorem pay10_eq : k0_pay10 m q k v = k0_pay9 m (extractStridedSlice S512x64 ![0, 192] q slices_S512x1024_o0_192_S512x64) k v := rfl
theorem pay12_eq : k0_pay12 v (k0_pay11 m q k) = k0_pay9 m (extractStridedSlice S512x64 ![0, 256] q slices_S512x1024_o0_256_S512x64) k v := rfl
theorem pay13_eq : k0_pay13 m q k v = k0_pay9 m (extractStridedSlice S512x64 ![0, 320] q slices_S512x1024_o0_320_S512x64) k v := rfl
theorem pay14_eq : k0_pay14 m q k v = k0_pay9 m (extractStridedSlice S512x64 ![0, 384] q slices_S512x1024_o0_384_S512x64) k v := rfl
theorem pay16_eq : k0_pay16 m (k0_pay15 q) k v = k0_pay9 m (extractStridedSlice S512x64 ![0, 448] q slices_S512x1024_o0_448_S512x64) k v := rfl
theorem pay17_eq : k0_pay17 m q k v = k0_pay9 m (extractStridedSlice S512x64 ![0, 512] q slices_S512x1024_o0_512_S512x64) k v := rfl
theorem pay21_eq : k0_pay21 (k0_pay18 m q k v) (k0_pay19 m q k v) k0_pay20
    = k0_pay9 m (extractStridedSlice S512x64 ![0, 576] q slices_S512x1024_o0_576_S512x64) k v := rfl
theorem pay22_eq : k0_pay22 m q k v = k0_pay9 m (extractStridedSlice S512x64 ![0, 640] q slices_S512x1024_o0_640_S512x64) k v := rfl
theorem pay23_eq : k0_pay23 m q k v = k0_pay9 m (extractStridedSlice S512x64 ![0, 704] q slices_S512x1024_o0_704_S512x64) k v := rfl
theorem pay25_eq : k0_pay25 v (k0_pay24 m q k) = k0_pay9 m (extractStridedSlice S512x64 ![0, 768] q slices_S512x1024_o0_768_S512x64) k v := rfl
theorem pay26_eq : k0_pay26 m q k v = k0_pay9 m (extractStridedSlice S512x64 ![0, 832] q slices_S512x1024_o0_832_S512x64) k v := rfl
theorem pay27_eq : k0_pay27 m q k v = k0_pay9 m (extractStridedSlice S512x64 ![0, 896] q slices_S512x1024_o0_896_S512x64) k v := rfl

section
variable (h0 h1 h2 h3 h4 h5 h6 h7 h8 h9 h10 h11 h12 h13 h14 : FVec F S512x64 .f32) (q15 : FVec F S512x64 .bf16)
  (x0 : Vec F S1x512x1024 .f32) (wo : Vec F S1024x1024 .bf16)

/-- The printed variance is that of the printed rows, -/
theorem pay33_eq : k0_pay33 m h0 h1 h2 h3 h4 h5 h6 h7 h8 h9 h10 h11 h12 h13 h14 q15 k v x0 wo
    = varB (k0_pay29 m h0 h1 h2 h3 h4 h5 h6 h7 h8 h9 h10 h11 h12 h13 h14 q15 k v x0 wo) := rfl
/-- and so are the rows less their means. -/
theorem pay34_eq : k0_pay34 m h0 h1 h2 h3 h4 h5 h6 h7 h8 h9 h10 h11 h12 h13 h14 q15 k v x0 wo
    = cenB (k0_pay29 m h0 h1 h2 h3 h4 h5 h6 h7 h8 h9 h10 h11 h12 h13 h14 q15 k v x0 wo) := rfl
end

end Cert.KernelIdeal.Gen

end
-- ==== Proof.RunB.lean ====
module

public import proofs.«01_k».proof.Proof.OutB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a point of the SECOND phase: from the inputs' blocks and any contents of the three scratch buffers, the
    result's buffer is left at `outB` of them, and everything else as it was. -/
theorem kernelRun0_B (c : Dev nD) (i : grid0.Coords) (arg2 : Memref sig .tc .vmem S1x512x1024 .f32) (harg2 : arg2.IsWhole) (arg3 : Memref sig .tc .vmem S1x512x2048 .f32) (harg3 : arg3.IsWhole) (arg4 : Memref sig .tc .vmem S1024x4096 .bf16) (harg4 : arg4.IsWhole) (arg5 : Memref sig .tc .vmem S1x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x2048 .bf16) (harg11 : arg11.IsWhole) (arg12 : Memref sig .tc .vmem S1x2048 .f32) (harg12 : arg12.IsWhole) (arg13 : Memref sig .tc .vmem S2048x1024 .bf16) (harg13 : arg13.IsWhole) (arg14 : Memref sig .tc .vmem S1x1024 .f32) (harg14 : arg14.IsWhole) (arg15 : Memref sig .tc .vmem S1x512x1024 .f32) (harg15 : arg15.IsWhole) (arg16 : Memref sig .tc .vmem S2048x1024 .bf16) (harg16 : arg16.IsWhole) (arg17 : Memref sig .tc .vmem S1024x2048 .bf16) (harg17 : arg17.IsWhole) (arg18 : Memref sig .tc .vmem S2048x2048 .bf16) (harg18 : arg18.IsWhole) (hc0 : ¬cond0_0 i) (hc1 : cond0_1 i)
    (x0 : Vec F S1x512x1024 .f32) (x1 : Vec F S1x512x2048 .f32) (x2 : Vec F S1024x4096 .bf16) (x3 : Vec F S1x2048 .f32) (x4 : Vec F S1x1024 .f32) (x5 : Vec F S1x1024 .f32) (x6 : Vec F S1024x1024 .bf16) (x7 : Vec F S1x1024 .f32) (x8 : Vec F S1x1024 .f32) (x9 : Vec F S1024x2048 .bf16) (x10 : Vec F S1x2048 .f32) (x11 : Vec F S2048x1024 .bf16) (x12 : Vec F S1x1024 .f32)
    (d0 : Vec F S2048x1024 .bf16) (d1 : Vec F S1024x2048 .bf16) (d2 : Vec F S2048x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ owns (c : Thread nD τ) arg16 fullShare d0 ∗ owns (c : Thread nD τ) arg17 fullShare d1 ∗ owns (c : Thread nD τ) arg18 fullShare d2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (outB x0 x1 x6 x7 x8 x9 x10 x11 x12 (VecWindow.window d0 (k0_off4 i) S512x1024.size (k0_off4_inb i hc1)) d1 d2) ∗ owns (c : Thread nD τ) arg16 fullShare d0 ∗ owns (c : Thread nD τ) arg17 fullShare d1 ∗ owns (c : Thread nD τ) arg18 fullShare d2) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0__fused_body_eq_skeleton]; unfold cc0__fused_body_skel
    simp only [k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, %hf13, H13⟩, ⟨%fs0, %hs0, HS0⟩, ⟨%fs1, %hs1, HS1⟩, ⟨%fs2, %hs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hs0; obtain rfl := harg17.eq_unread hs1; obtain rfl := harg18.eq_unread hs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; swap; · iexact H13
      ipureintro
      refine (store_full harg15 _ _ _).trans ?_
      sl_unfold_run_names
      simp only [load_full, load_window, pay6_eq, pay7_eq, pay8_eq, pay10_eq, pay12_eq, pay13_eq, pay14_eq, pay16_eq, pay17_eq,
        pay21_eq, pay22_eq, pay23_eq, pay25_eq, pay26_eq, pay27_eq, pay33_eq, pay34_eq]
      rfl
    isplitl [HS0]
    · iexists _; isplitr; · ipureintro; exact harg16.read_unread _
      iexact HS0
    isplitl [HS1]
    · iexists _; isplitr; · ipureintro; exact harg17.read_unread _
      iexact HS1
    iexists _; isplitr; · ipureintro; exact harg18.read_unread _
    iexact HS2

end Cert.KernelIdeal.Gen

end
-- ==== Proof.Scratch.lean ====
/- The scratch buffers over the grid: what the first phase of a batch writes, block after block, and what they hold when
   the second phase reads them. -/
module

public import proofs.«01_k».proof.Proof.OutB
public import Idealize.ShloMosaic.Lib.ValueIdxCore

@[expose] public section

set_option maxRecDepth 16384

noncomputable section

namespace Cert.KernelIdeal.Gen

open Idealize.ShloMosaic Idealize.ShloMosaic.TcCoe Idealize.ShloMosaic.ValueIdx

variable {F : FTy → Type} [FloatOps F] [Named F]
variable (m : (ℓ : Loc nD τ sig) → Buf (Elt F) ℓ)

/-- The grid has 32 points. -/
theorem N_eq : cfg0.N = 32 := N_0

/-- Point `j` of batch `b` (the last point where there is none). -/
def pt (b j : ℕ) : Fin cfg0.N := ⟨min (8 * b + j) 31, lt_of_lt_of_eq (by omega) N_eq.symm⟩

/-- The queries, transposed keys and widened values of the block of rows that point `t` reads. -/
def qBlk (c : Dev nD) (t : Fin cfg0.N) : Vec F S512x1024 .bf16 := k0_pay4 (iblk m c 0 t) (iblk m c 4 t) (iblk m c 5 t) (iblk m c 2 t)
@[inherit_doc qBlk]
def kBlk (c : Dev nD) (t : Fin cfg0.N) : Vec F S1024x512 .bf16 := k0_pay1 (k0_pay3 (iblk m c 0 t) (iblk m c 4 t) (iblk m c 5 t) (iblk m c 2 t))
@[inherit_doc qBlk]
def vBlk (c : Dev nD) (t : Fin cfg0.N) : Vec F S512x2048 .bf16 :=
  k0_pay2 (k0_pay3 (iblk m c 0 t) (iblk m c 4 t) (iblk m c 5 t) (iblk m c 2 t)) (iblk m c 3 t)

/-- All of a batch's queries, transposed keys and widened values: row (column) `r` is row (column) `r % 512` of block `r / 512`. -/
def qAll (c : Dev nD) (b : ℕ) : Vec F S2048x1024 .bf16 := fun y =>
  qBlk m c (pt b ((y 0).val / 512)) (ix2 (⟨(y 0).val % 512, Nat.mod_lt _ (by norm_num)⟩ : Fin 512) (y 1))
@[inherit_doc qAll]
def kAll (c : Dev nD) (b : ℕ) : Vec F S1024x2048 .bf16 := fun y =>
  kBlk m c (pt b ((y 1).val / 512)) (ix2 (y 0) (⟨(y 1).val % 512, Nat.mod_lt _ (by norm_num)⟩ : Fin 512))
@[inherit_doc qAll]
def vAll (c : Dev nD) (b : ℕ) : Vec F S2048x2048 .bf16 := fun y =>
  vBlk m c (pt b ((y 0).val / 512)) (ix2 (⟨(y 0).val % 512, Nat.mod_lt _ (by norm_num)⟩ : Fin 512) (y 1))

/-- Before point `k` the scratch buffers hold the batch's first `min (k % 8) 4` blocks. -/
def Held (c : Dev nD) (k : ℕ) (d0 : Vec F S2048x1024 .bf16) (d1 : Vec F S1024x2048 .bf16) (d2 : Vec F S2048x2048 .bf16) : Prop :=
  (∀ y, (y 0).val < 512 * min (k % 8) 4 → d0 y = qAll m c (k / 8) y)
  ∧ (∀ y, (y 1).val < 512 * min (k % 8) 4 → d1 y = kAll m c (k / 8) y)
  ∧ (∀ y, (y 0).val < 512 * min (k % 8) 4 → d2 y = vAll m c (k / 8) y)

/-- Where the stores and the load of the scratch buffers lie. -/
theorem off1_eq : ∀ t : Fin cfg0.N, k0_off1 (grid0.coords t) 0 = 512 * (t.val % 8) ∧ k0_off1 (grid0.coords t) 1 = 0 :=
  (by decide +kernel : ∀ t : Fin grid0.N, k0_off1 (grid0.coords t) 0 = 512 * (t.val % 8) ∧ k0_off1 (grid0.coords t) 1 = 0)
@[inherit_doc off1_eq]
theorem off2_eq : ∀ t : Fin cfg0.N, k0_off2 (grid0.coords t) 0 = 0 ∧ k0_off2 (grid0.coords t) 1 = 512 * (t.val % 8) :=
  (by decide +kernel : ∀ t : Fin grid0.N, k0_off2 (grid0.coords t) 0 = 0 ∧ k0_off2 (grid0.coords t) 1 = 512 * (t.val % 8))
@[inherit_doc off1_eq]
theorem off3_eq : ∀ t : Fin cfg0.N, k0_off3 (grid0.coords t) 0 = 512 * (t.val % 8) ∧ k0_off3 (grid0.coords t) 1 = 0 :=
  (by decide +kernel : ∀ t : Fin grid0.N, k0_off3 (grid0.coords t) 0 = 512 * (t.val % 8) ∧ k0_off3 (grid0.coords t) 1 = 0)
@[inherit_doc off1_eq]
theorem off4_eq : ∀ t : Fin cfg0.N, 4 ≤ t.val % 8 → k0_off4 (grid0.coords t) 0 = 512 * (t.val % 8 - 4) ∧ k0_off4 (grid0.coords t) 1 = 0 :=
  (by decide +kernel : ∀ t : Fin grid0.N, 4 ≤ t.val % 8 → k0_off4 (grid0.coords t) 0 = 512 * (t.val % 8 - 4) ∧ k0_off4 (grid0.coords t) 1 = 0)

/-- A row window put into an array whose earlier rows are known: the rows up to the window's end are known. -/
theorem put_rows {n k : ℕ} {α : Type} (G d : (⟨2, ![n, k]⟩ : Shape).Idx → α) (off : Fin 2 → ℕ) (w : (⟨2, ![512, k]⟩ : Shape).Idx → α)
    (j : ℕ) (h0 : off 0 = 512 * j) (h1 : off 1 = 0) (hd : ∀ y, (y 0).val < 512 * j → d y = G y)
    (hw : ∀ y, (y 0).val / 512 = j → G y = w (ix2 (⟨(y 0).val % 512, Nat.mod_lt _ (by norm_num)⟩ : Fin 512) (y 1)))
    (y : (⟨2, ![n, k]⟩ : Shape).Idx) (hy : (y 0).val < 512 * (j + 1)) :
    VecWindow.put (s := ⟨2, ![n, k]⟩) d off ![512, k] w y = G y := by
  unfold VecWindow.put
  split
  · next h =>
    have a0 := h 0
    rw [h0] at a0
    have hj : (y 0).val / 512 = j := by omega
    rw [hw y hj]
    congr 1
    funext a
    refine Fin.ext ?_
    match a with
    | ⟨0, _⟩ => show (y 0).val - off 0 = (y 0).val % 512; omega
    | ⟨1, _⟩ => show (y 1).val - off 1 = (y 1).val; omega
  · next h =>
    refine hd y (by_contra fun hlt => h fun a => ?_)
    match a with
    | ⟨0, _⟩ => show off 0 ≤ (y 0).val ∧ (y 0).val < off 0 + 512; omega
    | ⟨1, _⟩ =>
      have := (y 1).isLt
      show off 1 ≤ (y 1).val ∧ (y 1).val < off 1 + k
      have e : (⟨2, ![n, k]⟩ : Shape).size 1 = k := rfl
      omega

/-- A column window put into an array whose earlier columns are known: the columns up to the window's end are known. -/
theorem put_cols {n k : ℕ} {α : Type} (G d : (⟨2, ![n, k]⟩ : Shape).Idx → α) (off : Fin 2 → ℕ) (w : (⟨2, ![n, 512]⟩ : Shape).Idx → α)
    (j : ℕ) (h0 : off 0 = 0) (h1 : off 1 = 512 * j) (hd : ∀ y, (y 1).val < 512 * j → d y = G y)
    (hw : ∀ y, (y 1).val / 512 = j → G y = w (ix2 (y 0) (⟨(y 1).val % 512, Nat.mod_lt _ (by norm_num)⟩ : Fin 512)))
    (y : (⟨2, ![n, k]⟩ : Shape).Idx) (hy : (y 1).val < 512 * (j + 1)) :
    VecWindow.put (s := ⟨2, ![n, k]⟩) d off ![n, 512] w y = G y := by
  unfold VecWindow.put
  split
  · next h =>
    have a0 := h 1
    rw [h1] at a0
    have hj : (y 1).val / 512 = j := by
      have : (![n, 512] : Fin 2 → ℕ) 1 = 512 := rfl
      omega
    rw [hw y hj]
    congr 1
    funext a
    refine Fin.ext ?_
    match a with
    | ⟨0, _⟩ => show (y 0).val - off 0 = (y 0).val; omega
    | ⟨1, _⟩ => show (y 1).val - off 1 = (y 1).val % 512; omega
  · next h =>
    refine hd y (by_contra fun hlt => h fun a => ?_)
    match a with
    | ⟨0, _⟩ =>
      have := (y 0).isLt
      show off 0 ≤ (y 0).val ∧ (y 0).val < off 0 + n
      have e : (⟨2, ![n, k]⟩ : Shape).size 0 = n := rfl
      omega
    | ⟨1, _⟩ => show off 1 ≤ (y 1).val ∧ (y 1).val < off 1 + 512; omega

theorem pt_div_mod (t : Fin cfg0.N) (j : ℕ) (h : j = t.val % 8) : pt (t.val / 8) j = t := by
  have : t.val < 32 := lt_of_lt_of_eq t.isLt N_eq
  refine Fin.ext ?_
  show min (8 * (t.val / 8) + j) 31 = t.val
  omega

/-- A point of the first phase extends what is held by one block. -/
theorem held_first (c : Dev nD) (t : Fin cfg0.N) (ht : t.val % 8 ≤ 3) {d0 : Vec F S2048x1024 .bf16} {d1 : Vec F S1024x2048 .bf16} {d2 : Vec F S2048x2048 .bf16}
    (H : Held m c t.val d0 d1 d2) :
    Held m c (t.val + 1) (VecWindow.put d0 (k0_off1 (grid0.coords t)) S512x1024.size (qBlk m c t))
      (VecWindow.put d1 (k0_off2 (grid0.coords t)) S1024x512.size (kBlk m c t))
      (VecWindow.put d2 (k0_off3 (grid0.coords t)) S512x2048.size (vBlk m c t)) := by
  obtain ⟨H0, H1, H2⟩ := H
  have hm : min (t.val % 8) 4 = t.val % 8 := by omega
  have hm' : min ((t.val + 1) % 8) 4 = t.val % 8 + 1 := by omega
  have hb : (t.val + 1) / 8 = t.val / 8 := by omega
  unfold Held
  rw [hm] at H0 H1 H2
  rw [hm', hb]
  refine ⟨fun y hy => ?_, fun y hy => ?_, fun y hy => ?_⟩
  · refine put_rows (qAll m c (t.val / 8)) d0 _ (qBlk m c t) (t.val % 8) (off1_eq t).1 (off1_eq t).2 H0 (fun y hy => ?_) y hy
    unfold qAll; rw [pt_div_mod t _ hy]
  · refine put_cols (kAll m c (t.val / 8)) d1 _ (kBlk m c t) (t.val % 8) (off2_eq t).1 (off2_eq t).2 H1 (fun y hy => ?_) y hy
    unfold kAll; rw [pt_div_mod t _ hy]
  · refine put_rows (vAll m c (t.val / 8)) d2 _ (vBlk m c t) (t.val % 8) (off3_eq t).1 (off3_eq t).2 H2 (fun y hy => ?_) y hy
    unfold vAll; rw [pt_div_mod t _ hy]

/-- At a point of the second phase everything is held: the query rows read there are those of the block four points
    before, and the keys and values are the batch's. -/
theorem held_second (c : Dev nD) (t : Fin cfg0.N) (ht : 4 ≤ t.val % 8) {d0 : Vec F S2048x1024 .bf16} {d1 : Vec F S1024x2048 .bf16} {d2 : Vec F S2048x2048 .bf16}
    (H : Held m c t.val d0 d1 d2) (inb : ∀ a, (k0_off4 (grid0.coords t)) a + S512x1024.size a ≤ S2048x1024.size a) :
    VecWindow.window d0 (k0_off4 (grid0.coords t)) S512x1024.size inb = qBlk m c (pt (t.val / 8) (t.val % 8 - 4))
    ∧ d1 = kAll m c (t.val / 8) ∧ d2 = vAll m c (t.val / 8) := by
  obtain ⟨H0, H1, H2⟩ := H
  have hm : min (t.val % 8) 4 = 4 := by omega
  rw [hm] at H0 H1 H2
  refine ⟨funext fun y => ?_, funext fun y => H1 y (y 1).isLt, funext fun y => H2 y (y 0).isLt⟩
  obtain ⟨o0, o1⟩ := off4_eq t ht
  have y0 : (y 0).val < 512 := (y 0).isLt
  have e0 : ((Rect.unit (s := S2048x1024) (k0_off4 (grid0.coords t)) S512x1024.size inb).emb y 0).val = k0_off4 (grid0.coords t) 0 + 1 * (y 0).val := rfl
  have e1 : ((Rect.unit (s := S2048x1024) (k0_off4 (grid0.coords t)) S512x1024.size inb).emb y 1).val = k0_off4 (grid0.coords t) 1 + 1 * (y 1).val := rfl
  rw [o0] at e0; rw [o1] at e1
  show d0 ((Rect.unit (s := S2048x1024) (k0_off4 (grid0.coords t)) S512x1024.size inb).emb y) = _
  rw [H0 _ (by omega)]
  unfold qAll
  have q : ((Rect.unit (s := S2048x1024) (k0_off4 (grid0.coords t)) S512x1024.size inb).emb y 0).val / 512 = t.val % 8 - 4 := by omega
  rw [q]
  congr 1
  funext a
  refine Fin.ext ?_
  match a with
  | ⟨0, _⟩ => show ((Rect.unit (s := S2048x1024) (k0_off4 (grid0.coords t)) S512x1024.size inb).emb y 0).val % 512 = (y 0).val; omega
  | ⟨1, _⟩ => show ((Rect.unit (s := S2048x1024) (k0_off4 (grid0.coords t)) S512x1024.size inb).emb y 1).val = (y 1).val; omega

/-- A point of the second phase leaves what is held as it is. -/
theorem held_next (c : Dev nD) (t : Fin cfg0.N) (ht : 4 ≤ t.val % 8) {d0 : Vec F S2048x1024 .bf16} {d1 : Vec F S1024x2048 .bf16} {d2 : Vec F S2048x2048 .bf16}
    (H : Held m c t.val d0 d1 d2) : Held m c (t.val + 1) d0 d1 d2 := by
  obtain ⟨H0, H1, H2⟩ := H
  unfold Held
  by_cases h : t.val % 8 = 7
  · have hm' : min ((t.val + 1) % 8) 4 = 0 := by omega
    rw [hm']
    exact ⟨fun y hy => absurd hy (by omega), fun y hy => absurd hy (by omega), fun y hy => absurd hy (by omega)⟩
  · have hm : min (t.val % 8) 4 = min ((t.val + 1) % 8) 4 := by omega
    have hb : (t.val + 1) / 8 = t.val / 8 := by omega
    rw [← hm, hb]
    exact ⟨H0, H1, H2⟩

/-- The block of the result that point `t` of the second phase leaves. -/
def oBlk (c : Dev nD) (t : Fin cfg0.N) : Vec F S1x512x1024 .f32 :=
  outB (iblk m c 0 t) (iblk m c 1 t) (iblk m c 6 t) (iblk m c 7 t) (iblk m c 8 t) (iblk m c 9 t) (iblk m c 10 t) (iblk m c 11 t) (iblk m c 12 t)
    (qBlk m c (pt (t.val / 8) (t.val % 8 - 4))) (kAll m c (t.val / 8)) (vAll m c (t.val / 8))

end Cert.KernelIdeal.Gen

end
-- ==== Proof.Track.lean ====
/- The launch: the proof data of the pipeline (the scratch buffers tracked over the grid), the body at any point, and what
   every run leaves in the result's array and in the arguments. -/
module

public import proofs.«01_k».proof.Proof.Conds
public import proofs.«01_k».proof.Proof.RunA
public import proofs.«01_k».proof.Proof.RunB
public import proofs.«01_k».proof.Proof.Scratch
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The invariant before point `k`: the scratch buffers hold the batch's blocks written so far. -/
def Inv (c : Dev nD) (k : ℕ) : sProp 𝕄 :=
  iprop((∃ d0 d1 d2, ⌜Held m c k d0 d1 d2⌝ ∗ owns (c : Thread nD τ) scM0_0 fullShare d0 ∗ owns (c : Thread nD τ) scM0_1 fullShare d1
    ∗ owns (c : Thread nD τ) scM0_2 fullShare d2) ∗ (∃ r, prngReg c r))

/-- The pipeline's proof data: the inputs' buffers keep their blocks, the result's is left at `oBlk`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => oBlk m c t
  Φ k := Inv m c k.val
  q _ := fullShare
  owed _ := 0

/-- The arrays are those the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = oBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
theorem leaves0_9 (c : Dev nD) (t : Fin cfg0.N) : (dats m 0 c).leavesExact 9 t = owns (c : Thread nD τ) (ms0_9 t) fullShare (iblk m c 9 t) := by
  unfold Dat.leavesExact; rw [liveAt0_9 t, after0_9]
theorem leaves0_10 (c : Dev nD) (t : Fin cfg0.N) : (dats m 0 c).leavesExact 10 t = owns (c : Thread nD τ) (ms0_10 t) fullShare (iblk m c 10 t) := by
  unfold Dat.leavesExact; rw [liveAt0_10 t, after0_10]
theorem leaves0_11 (c : Dev nD) (t : Fin cfg0.N) : (dats m 0 c).leavesExact 11 t = owns (c : Thread nD τ) (ms0_11 t) fullShare (iblk m c 11 t) := by
  unfold Dat.leavesExact; rw [liveAt0_11 t, after0_11]
theorem leaves0_12 (c : Dev nD) (t : Fin cfg0.N) : (dats m 0 c).leavesExact 12 t = owns (c : Thread nD τ) (ms0_12 t) fullShare (iblk m c 12 t) := by
  unfold Dat.leavesExact; rw [liveAt0_12 t, after0_12]

/-- At a point of the second phase the result's buffer is left at the point's block. -/
theorem leaves0_13 (c : Dev nD) (t : Fin cfg0.N) (h : 4 ≤ t.val % 8) :
    (dats m 0 c).leavesExact 13 t = owns (c : Thread nD τ) (ms0_13 t) fullShare (oBlk m c t) := by
  have hi : cfg0.idle 13 (grid0.coords t) = false := by rw [idleAt0_13]; exact decide_eq_false (by omega)
  unfold Dat.leavesExact; rw [hi, after0_13]

/-- At a point of the first phase it is left as it was. -/
theorem leaves0_13_idle (c : Dev nD) (t : Fin cfg0.N) (h : t.val % 8 ≤ 3) :
    (dats m 0 c).leavesExact 13 t = iprop(∃ d, owns (c : Thread nD τ) (ms0_13 t) fullShare ((dats m 0 c).before 13 t d)) :=
  (dats m 0 c).leavesExact_idle 13 t (by rw [idleAt0_13]; exact decide_eq_true h) (by rw [flushAt0_13]; exact decide_eq_false (by omega))

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl]
  rw [show (dats m 0 c).Φ t.castSucc = Inv m c t.val from rfl, show (dats m 0 c).Φ t.succ = Inv m c (t.val + 1) from rfl]
  rw [leaves0_0, leaves0_1, leaves0_2, leaves0_3, leaves0_4, leaves0_5, leaves0_6, leaves0_7, leaves0_8, leaves0_9, leaves0_10, leaves0_11, leaves0_12]
  unfold Inv
  by_cases h0 : t.val % 8 ≤ 3
  · rw [leaves0_13_idle m c t h0]
    iintro ⟨⟨⟨%d0, %d1, %d2, %HH, HS0, HS1, HS2⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩⟩
    iapply ((kernelRun0_A c (grid0.coords t) _ _ _ _ _ _ _ _ _ _ _ _ _ _ _ _ _ _ _ _ _ _ _ _ _ _ _ _ _ _ _ _ _ _ ((hcond0_0 t).mpr h0) (fun h => absurd ((hcond0_1 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((dats m 0 c).before 13 t e13) d0 d1 d2) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    isplitl [HS2]; · iexact HS2
    iintro ⟨H0, H1, H2, H3, H4, H5, H6, H7, H8, H9, H10, H11, H12, H13, HS0, HS1, HS2⟩
    isplitl [HS0 HS1 HS2 Hg]
    · isplitl [HS0 HS1 HS2]
      · iexists _, _, _
        isplitr; · ipureintro; exact held_first m c t h0 HH
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexists _; iexact H13
  · have h1 : 4 ≤ t.val % 8 := by omega
    rw [leaves0_13 m c t h1]
    iintro ⟨⟨⟨%d0, %d1, %d2, %HH, HS0, HS1, HS2⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩⟩
    iapply ((kernelRun0_B c (grid0.coords t) _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) d0 d1 d2) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [HS0]; · iexact HS0
    isplitl [HS1]; · iexact HS1
    isplitl [HS2]; · iexact HS2
    iintro ⟨H0, H1, H2, H3, H4, H5, H6, H7, H8, H9, H10, H11, H12, H13, HS0, HS1, HS2⟩
    have hw := held_second m c t h1 HH (k0_off4_inb (grid0.coords t) ((hcond0_1 t).mpr h1))
    rw [hw.1]
    obtain ⟨-, rfl, rfl⟩ := hw
    isplitl [HS0 HS1 HS2 Hg]
    · isplitl [HS0 HS1 HS2]
      · iexists _, _, _
        isplitr; · ipureintro; exact held_next m c t h1 HH
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row at point `t`. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first point nothing is asked of the scratch buffers. -/
theorem inv_in (c : Dev nD) : (Pipeline.ΦA spec0 c : sProp 𝕄) ⊢ Inv m c 0 := by
  rw [PhiA0_eq]; unfold Inv
  iintro ⟨⟨⟨%d0, H0⟩, ⟨%d1, H1⟩, ⟨%d2, H2⟩⟩, Hg⟩
  isplitl [H0 H1 H2]
  · iexists d0, d1, d2
    isplitr
    · ipureintro
      exact ⟨fun y hy => absurd hy (by simp), fun y hy => absurd hy (by simp), fun y hy => absurd hy (by simp)⟩
    isplitl [H0]; · iexact H0
    isplitl [H1]; · iexact H1
    iexact H2
  iexact Hg

/-- After the last point their contents are forgotten. -/
theorem inv_out (c : Dev nD) (k : ℕ) : Inv m c k ⊢ (Pipeline.ΦA spec0 c : sProp 𝕄) := by
  rw [PhiA0_eq]; unfold Inv
  iintro ⟨⟨%d0, %d1, %d2, -, H0, H1, H2⟩, Hg⟩
  isplitl [H0 H1 H2]
  · isplitl [H0]; · iexists _; iexact H0
    isplitl [H1]; · iexists _; iexact H1
    iexists _; iexact H2
  iexact Hg

set_option backward.isDefEq.respectTransparency.types false in
/-- The launch: every run terminates with the arrays the pipeline stages as the proof data has them, the other buffers
    as the region found them, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => inv_in m c) (hout := fun c => inv_out m c _) (hQ' := fun _ h => h)

end Cert.KernelIdeal.Gen

end
-- ==== Proof.Array.lean ====
/- What every run leaves in the result's array: block by block, what the points of the second phase leave. -/
module

public import proofs.«01_k».proof.Proof.Track
public import Idealize.ShloMosaic.Lib.ValueIdxCore
public import Idealize.ShloMosaic.Lib.Pipeline.ValueKit

@[expose] public section

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat)

variable {F : FTy → Type} [FloatOps F] [Named F]
variable (m : (ℓ : Loc nD τ sig) → Buf (Elt F) ℓ) (ρ : Dev nD → PrngReg)

/-- The result: row `r` of batch `b` is row `r % 512` of what point `4 + r / 512` of the batch leaves. -/
def outArr (c : Dev nD) : Vec F S4x2048x1024 .f32 := fun y =>
  oBlk m c (pt (y 0).val (4 + (y 1).val / 512)) (ValueIdx.ix3 (0 : Fin 1) (⟨(y 1).val % 512, Nat.mod_lt _ (by norm_num)⟩ : Fin 512) (y 2))

/-- The block that point `t` of the second phase writes back lies at rows `512 * (t % 8 - 4)` of batch `t / 8`. -/
theorem index13 : ∀ t : Fin cfg0.N, 4 ≤ t.val % 8 → win0_13.index t 0 = t.val / 8 ∧ win0_13.index t 1 = t.val % 8 - 4 ∧ win0_13.index t 2 = 0 :=
  (by decide +kernel : ∀ t : Fin grid0.N, 4 ≤ t.val % 8 → win0_13.index t 0 = t.val / 8 ∧ win0_13.index t 1 = t.val % 8 - 4 ∧ win0_13.index t 2 = 0)

theorem outArr_of (c : Dev nD) (t : Fin cfg0.N) (ht : 4 ≤ t.val % 8) (y : S1x512x1024.Idx) (z : S4x2048x1024.Idx)
    (h0 : (z 0).val = t.val / 8) (h1 : (z 1).val = 512 * (t.val % 8 - 4) + (y 1).val) (h2 : (z 2).val = (y 2).val) :
    outArr m c z = oBlk m c t y := by
  have y1 : (y 1).val < 512 := (y 1).isLt
  have y0 : (y 0).val < 1 := (y 0).isLt
  unfold outArr
  rw [h0, show 4 + (z 1).val / 512 = t.val % 8 by omega, pt_div_mod t _ rfl]
  congr 1
  funext a
  refine Fin.ext ?_
  match a with
  | ⟨0, _⟩ => show 0 = (y 0).val; omega
  | ⟨1, _⟩ => show (z 1).val % 512 = (y 1).val; omega
  | ⟨2, _⟩ => exact h2

/-- The result's array after the last point. -/
theorem arrAt_result (c : Dev nD) : (dats m 0 c).arrAt 13 cfg0.N = outArr m c := by
  refine (dats m 0 c).arrAt_eq_of_covers 13 _ (by decide +kernel) fun t hf y => ?_
  have ht : 4 ≤ t.val % 8 := by rw [flushAt0_13] at hf; exact of_decide_eq_true hf
  obtain ⟨i0, i1, i2⟩ := index13 t ht
  have y0 : (y 0).val < 1 := (y 0).isLt
  have e0 : ((win0_13.blk t).view.emb y 0).val = t.val / 8 := by blk_simp; omega
  have e1 : ((win0_13.blk t).view.emb y 1).val = 512 * (t.val % 8 - 4) + (y 1).val := by blk_simp; omega
  have e2 : ((win0_13.blk t).view.emb y 2).val = (y 2).val := by blk_simp; omega
  blk_simp
  rw [after0_13]
  exact (outArr_of m c t ht y _ e0 e1 e2).symm

/-- What every run leaves: the result at `outArr`, the arguments as launched. -/
theorem run_result : θ_run defs (onTc (τ := τ) (main (F := F))) ⟨m, fun _ => 0, ρ⟩ (fun r => ∀ c : Dev nD,
      r.2.mem ((c.tc : Thread nD τ).loc main_v20) = outArr m c) :=
  (θ_run defs _ _).mono (fun r h c => ((h.1 c).1 13).trans (arrAt_result m c)) (run_main m ρ)

/-- Every counter ends at zero. -/
theorem run_sem : θ_run defs (onTc (τ := τ) (main (F := F))) ⟨m, fun _ => 0, ρ⟩ (fun r => r.2.sem = fun _ => 0) :=
  (θ_run defs _ _).mono (fun _ h => h.2) (run_main m ρ)

end Cert.KernelIdeal.Gen

end
-- ==== Proof.Reals.lean ====
/- Extended reals that are real numbers, sums of them, and the printed literals as numbers. -/
module

public import Idealize.ShloMosaic.PureOps.Ideal
public import Mathlib.Data.EReal.Operations
public import Mathlib.Analysis.SpecialFunctions.Pow.Real

@[expose] public section

noncomputable section

namespace Cert.Rows

open Idealize.ShloMosaic

/-- The extended real is a real number. -/
def IsReal (x : EReal) : Prop := ∃ r : ℝ, x = (r : EReal)

theorem IsReal.coe (r : ℝ) : IsReal (r : EReal) := ⟨r, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A sum of real numbers, taken among the extended reals, is their sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- A finite extended real is a real number. -/
theorem IsReal.of_abs_lt {x : EReal} (h : x ≠ ⊥ ∧ x ≠ ⊤) : IsReal x := ⟨x.toReal, (EReal.coe_toReal h.2 h.1).symm⟩

/-- The quotient of two real numbers. -/
theorem div_real (a b : ℝ) (hb : b ≠ 0) : Ideal.div (a : EReal) (b : EReal) = ((a / b : ℝ) : EReal) := by
  rw [Ideal.div_coe hb, ← EReal.coe_mul, mul_one_div]

/-! The printed literals. -/

theorem lit_1024 : Ideal.ofBits .f32 0x44800000#32 = ((1024 : ℝ) : EReal) := by
  simp [Ideal.ofBits, Ideal.ieee, -EReal.coe_mul]; norm_num
theorem lit_64 : Ideal.ofBits .f32 0x42800000#32 = ((64 : ℝ) : EReal) := by
  simp [Ideal.ofBits, Ideal.ieee, -EReal.coe_mul]; norm_num
theorem lit_43 : Ideal.ofBits .bf16 0x422C#16 = ((43 : ℝ) : EReal) := by
  simp [Ideal.ofBits, Ideal.ieee, -EReal.coe_mul]; norm_num
theorem lit_29 : Ideal.ofBits .f32 0x41E80000#32 = ((29 : ℝ) : EReal) := by
  simp [Ideal.ofBits, Ideal.ieee, -EReal.coe_mul]; norm_num
theorem lit_neg29 : Ideal.ofBits .f32 0xC1E80000#32 = ((-29 : ℝ) : EReal) := by
  simp [Ideal.ofBits, Ideal.ieee, -EReal.coe_mul]; norm_num
theorem lit_inf : Ideal.ofBits .f32 0x7F800000#32 = ⊤ := by
  simp [Ideal.ofBits, Ideal.ieee]
theorem lit_neg_inf : Ideal.ofBits .f32 0xFF800000#32 = ⊥ := by
  simp [Ideal.ofBits, Ideal.ieee]
/-- The layer norm's ε is a positive number. -/
theorem lit_eps : ∃ e : ℝ, 0 < e ∧ Ideal.ofBits .f32 0x3727C5AC#32 = (e : EReal) :=
  ⟨10995116 / 1099511627776, by norm_num, by simp [Ideal.ofBits, Ideal.ieee, -EReal.coe_mul]; norm_num⟩
/-- The floor under the denominators is a positive number below `1e-20`. -/
theorem lit_floor : ∃ e : ℝ, 0 < e ∧ e ≤ 1 / 100000000000000000000 ∧ Ideal.ofBits .f32 0x0DA24260#32 = (e : EReal) :=
  ⟨10633824 * 2 ^ (-123 : ℤ), by positivity, by norm_num, by simp [Ideal.ofBits, Ideal.ieee, -EReal.coe_mul]⟩

end Cert.Rows

end
-- ==== Proof.Rows.lean ====
/- The block's mathematics on rows: the layer norm in the kernel's form and in the reference's, one head's attention in
   both forms, and the feed-forward part. -/
module

public import proofs.«01_k».proof.Proof.Reals

@[expose] public section

noncomputable section

namespace Cert.Rows

open Idealize.ShloMosaic

/-- The mean of a row. -/
def mean (r : Fin 1024 → EReal) : EReal := Ideal.div (∑ d, r d) (Ideal.ofBits .f32 0x44800000#32)

/-- The variance as the kernel computes it: the mean of the squares less the square of the mean. -/
def varK (r : Fin 1024 → EReal) : EReal := mean (fun d => r d * r d) - mean r * mean r

/-- The variance as the reference computes it: the mean of the squared distances from the mean. -/
def varR (r : Fin 1024 → EReal) : EReal := mean (fun d => (r d - mean r) * (r d - mean r))

/-- The kernel's layer norm of a row. -/
def lnK (r g b : Fin 1024 → EReal) (d : Fin 1024) : EReal :=
  (r d - mean r) * Ideal.rsqrt (varK r + Ideal.ofBits .f32 0x3727C5AC#32) * g d + b d

/-- The reference's layer norm of a row. -/
def lnR (r g b : Fin 1024 → EReal) (d : Fin 1024) : EReal :=
  Ideal.div (r d - mean r) (Ideal.sqrt (varR r + Ideal.ofBits .f32 0x3727C5AC#32)) * g d + b d

/-- On a row of real numbers both layer norms scale the centred row by the same real number. -/
theorem ln_core (r : Fin 1024 → EReal) (hr : ∀ d, IsReal (r d)) (d : Fin 1024) :
    (r d - mean r) * Ideal.rsqrt (varK r + Ideal.ofBits .f32 0x3727C5AC#32)
      = Ideal.div (r d - mean r) (Ideal.sqrt (varR r + Ideal.ofBits .f32 0x3727C5AC#32))
    ∧ IsReal (Ideal.div (r d - mean r) (Ideal.sqrt (varR r + Ideal.ofBits .f32 0x3727C5AC#32))) := by
  choose x hx using hr
  obtain rfl : r = fun d => ((x d : ℝ) : EReal) := funext hx
  obtain ⟨e, he, hE⟩ := lit_eps
  have hm : ∀ f : Fin 1024 → ℝ, mean (fun d => ((f d : ℝ) : EReal)) = (((∑ d, f d) / 1024 : ℝ) : EReal) := fun f => by
    unfold mean; rw [lit_1024, ← coe_sum, div_real _ _ (by norm_num)]
  set μ : ℝ := (∑ d, x d) / 1024 with hμ
  have hvR : varR (fun d => ((x d : ℝ) : EReal)) = (((∑ d, (x d - μ) * (x d - μ)) / 1024 : ℝ) : EReal) := by
    unfold varR
    rw [hm x]
    simp only [← EReal.coe_sub, ← EReal.coe_mul]
    exact hm _
  have hvK : varK (fun d => ((x d : ℝ) : EReal)) = (((∑ d, (x d - μ) * (x d - μ)) / 1024 : ℝ) : EReal) := by
    unfold varK
    rw [hm x]
    simp only [← EReal.coe_mul]
    rw [hm (fun d => x d * x d), ← EReal.coe_sub]
    congr 1
    have hS : ∑ d, x d = 1024 * μ := by rw [hμ]; ring
    have : ∑ d, (x d - μ) * (x d - μ) = ∑ d, x d * x d - 2 * μ * ∑ d, x d + 1024 * (μ * μ) := by
      rw [Finset.mul_sum, ← Finset.sum_sub_distrib,
        show (1024 : ℝ) * (μ * μ) = ∑ _d : Fin 1024, μ * μ by simp, ← Finset.sum_add_distrib]
      exact Finset.sum_congr rfl fun d _ => by ring
    rw [this, hS]
    ring
  have hpos : 0 < (∑ d, (x d - μ) * (x d - μ)) / 1024 + e :=
    add_pos_of_nonneg_of_pos (div_nonneg (Finset.sum_nonneg fun d _ => mul_self_nonneg _) (by norm_num)) he
  have hs : Real.sqrt ((∑ d, (x d - μ) * (x d - μ)) / 1024 + e) ≠ 0 := (Real.sqrt_pos.mpr hpos).ne'
  rw [hvK, hvR, hE, hm x, ← EReal.coe_add, Ideal.rsqrt_coe, Ideal.sqrt_coe, if_neg (not_lt.mpr hpos.le), if_neg hpos.ne',
    if_neg (not_lt.mpr hpos.le)]
  simp only [← EReal.coe_sub]
  rw [div_real _ _ hs, ← EReal.coe_mul, div_eq_mul_inv]
  exact ⟨rfl, IsReal.coe _⟩

/-- The two layer norms agree on a row of real numbers, whatever the scale and the shift. -/
theorem ln_eq (r g b : Fin 1024 → EReal) (hr : ∀ d, IsReal (r d)) (d : Fin 1024) : lnK r g b d = lnR r g b d := by
  unfold lnK lnR; rw [(ln_core r hr d).1]

/-- With real scale and shift the layer norm of a row of real numbers is real. -/
theorem ln_real (r g b : Fin 1024 → EReal) (hr : ∀ d, IsReal (r d)) (hg : ∀ d, IsReal (g d)) (hb : ∀ d, IsReal (b d))
    (d : Fin 1024) : IsReal (lnR r g b d) := ((ln_core r hr d).2.mul (hg d)).add (hb d)

/-- The kernel's unnormalised weight of one key: two to the clamped, masked score. -/
def wt (s μ : EReal) : EReal := Ideal.exp2 (min (s + μ) (Ideal.ofBits .bf16 0x422C#16))

/-- The kernel's attention of one query: the weighted sum of the values over the floored weighted sum of `one`. -/
def attK (s μ v one : Fin 2048 → EReal) : EReal :=
  Ideal.div (∑ t, wt (s t) (μ t) * v t) (max (∑ t, wt (s t) (μ t) * one t) (Ideal.ofBits .f32 0x0DA24260#32))

/-- The attention depends on its scores, mask and values entry by entry. -/
theorem attK_congr {s s' μ μ' v v' o o' : Fin 2048 → EReal} (hs : ∀ t, s t = s' t) (hμ : ∀ t, μ t = μ' t) (hv : ∀ t, v t = v' t)
    (ho : ∀ t, o t = o' t) : attK s μ v o = attK s' μ' v' o' := by
  rw [funext hs, funext hμ, funext hv, funext ho]

/-- The largest masked score. -/
def top (a μ : Fin 2048 → EReal) : EReal := max ⊥ (Finset.univ.fold max ⊥ fun t => a t + μ t)

/-- The reference's attention of one query: the values weighted by the softmax of the masked scores. -/
def attR (a μ v : Fin 2048 → EReal) : EReal :=
  ∑ t, Ideal.div (Ideal.exp (a t + μ t - top a μ)) (∑ u, Ideal.exp (a u + μ u - top a μ)) * v t

/-- The largest masked score is a real number when some key is not masked. -/
theorem top_real (a : Fin 2048 → ℝ) (μ : Fin 2048 → EReal) (hμ : ∀ t, μ t = 0 ∨ μ t = ⊥) (h0 : ∃ t, μ t = 0) :
    IsReal (top (fun t => (a t : EReal)) μ) := by
  obtain ⟨t0, ht0⟩ := h0
  have hsup : top (fun t => (a t : EReal)) μ = Finset.univ.sup fun t => (a t : EReal) + μ t := by
    unfold top; rw [max_eq_right bot_le]; rfl
  obtain ⟨t, -, ht⟩ := Finset.exists_mem_eq_sup (Finset.univ : Finset (Fin 2048)) ⟨t0, Finset.mem_univ _⟩
    (fun t => (a t : EReal) + μ t)
  rw [hsup, ht]
  rcases hμ t with h | h
  · exact ⟨a t, by rw [h, add_zero]⟩
  · have hle : (a t0 : EReal) + μ t0 ≤ Finset.univ.sup fun t => (a t : EReal) + μ t :=
      Finset.le_sup (f := fun t => (a t : EReal) + μ t) (Finset.mem_univ t0)
    rw [ht, ht0, h, add_zero, EReal.add_bot] at hle
    exact absurd (le_bot_iff.mp hle) (EReal.coe_ne_bot _)

/-- The logarithm of two is at least 29/43. -/
theorem log_two_ge : (29 / 43 : ℝ) ≤ Real.log 2 := by
  rw [Real.le_log_iff_exp_le (by norm_num)]
  have h : (1 / 2 : ℝ) ≤ Real.exp (-(29 / 43)) := by
    calc (1 / 2 : ℝ) ≤ (-(29 / 688) + 1) ^ 16 := by norm_num
      _ ≤ Real.exp (-(29 / 688)) ^ 16 := pow_le_pow_left₀ (by norm_num) (Real.add_one_le_exp _) _
      _ = _ := by rw [← Real.exp_nat_mul]; norm_num
  rw [Real.exp_neg, one_div] at h
  exact (inv_le_inv₀ (by norm_num) (Real.exp_pos _)).mp h

/-- Euler's number is at most four. -/
theorem exp_one_le : Real.exp 1 ≤ 4 := by
  have h : (1 / 4 : ℝ) ≤ Real.exp (-1) := by
    calc (1 / 4 : ℝ) = (-(1 / 2) + 1) ^ 2 := by norm_num
      _ ≤ Real.exp (-(1 / 2)) ^ 2 := pow_le_pow_left₀ (by norm_num) (Real.add_one_le_exp _) _
      _ = _ := by rw [← Real.exp_nat_mul]; norm_num
  rw [Real.exp_neg, one_div] at h
  exact (inv_le_inv₀ (by norm_num) (Real.exp_pos _)).mp h

/-- One head's attention: scores within ±29 stay under the kernel's clamp, whose base-two weights are then the softmax's
    up to a common factor; the floor under the denominator is not reached. -/
theorem att_eq (a v : Fin 2048 → ℝ) (μ : Fin 2048 → EReal) (ha : ∀ t, -29 ≤ a t ∧ a t ≤ 29) (hμ : ∀ t, μ t = 0 ∨ μ t = ⊥)
    (h0 : ∃ t, μ t = 0) :
    attK (fun t => ((a t / Real.log 2 : ℝ) : EReal)) μ (fun t => (v t : EReal)) (fun _ => 1)
      = attR (fun t => (a t : EReal)) μ (fun t => (v t : EReal))
    ∧ IsReal (attR (fun t => (a t : EReal)) μ (fun t => (v t : EReal))) := by
  classical
  obtain ⟨t0, ht0⟩ := h0
  obtain ⟨M, hM⟩ := top_real a μ hμ ⟨t0, ht0⟩
  have hlog : (29 / 43 : ℝ) ≤ Real.log 2 := log_two_ge
  have hlog0 : 0 < Real.log 2 := by linarith
  let w : Fin 2048 → ℝ := fun t => if μ t = 0 then Real.exp (a t) else 0
  have hw0 : ∀ t, 0 ≤ w t := fun t => by
    show 0 ≤ (if μ t = 0 then Real.exp (a t) else 0)
    split
    · exact (Real.exp_pos _).le
    · exact le_rfl
  have hW : Real.exp (-29) ≤ ∑ t, w t := by
    refine le_trans ?_ (Finset.single_le_sum (fun t _ => hw0 t) (Finset.mem_univ t0))
    show _ ≤ (if μ t0 = 0 then Real.exp (a t0) else 0)
    rw [if_pos ht0]
    exact Real.exp_le_exp.mpr (ha t0).1
  have hWpos : 0 < ∑ t, w t := lt_of_lt_of_le (Real.exp_pos _) hW
  have hwt : ∀ t, wt ((a t / Real.log 2 : ℝ) : EReal) (μ t) = (w t : EReal) := fun t => by
    unfold wt
    rw [lit_43]
    rcases hμ t with h | h
    · have hle : a t / Real.log 2 ≤ 43 := by
        rw [div_le_iff₀ hlog0]; nlinarith [(ha t).2]
      have hwe : w t = Real.exp (a t) := if_pos h
      rw [hwe, h, add_zero, min_eq_left (EReal.coe_le_coe_iff.mpr hle), Ideal.exp2_coe]
      congr 1
      show (2 : ℝ) ^ (a t / Real.log 2) = _
      rw [Real.rpow_def_of_pos (by norm_num), mul_div_cancel₀ _ hlog0.ne']
    · have hwe : w t = 0 := if_neg (by rw [h]; exact (EReal.zero_ne_bot).symm)
      rw [hwe, h, EReal.add_bot, min_eq_left bot_le, Ideal.exp2_bot, EReal.coe_zero]
  have hex : ∀ t, Ideal.exp ((a t : EReal) + μ t - (M : EReal)) = ((w t * Real.exp (-M) : ℝ) : EReal) := fun t => by
    rcases hμ t with h | h
    · have hwe : w t = Real.exp (a t) := if_pos h
      rw [hwe, h, add_zero, ← EReal.coe_sub, Ideal.exp_coe, ← Real.exp_add, sub_eq_add_neg]
    · have hwe : w t = 0 := if_neg (by rw [h]; exact (EReal.zero_ne_bot).symm)
      rw [hwe, h, EReal.add_bot, EReal.bot_sub, Ideal.exp_bot, zero_mul, EReal.coe_zero]
  have hK : attK (fun t => ((a t / Real.log 2 : ℝ) : EReal)) μ (fun t => (v t : EReal)) (fun _ => 1)
      = (((∑ t, w t * v t) / ∑ t, w t : ℝ) : EReal) := by
    obtain ⟨e, he, hle, hE⟩ := lit_floor
    unfold attK
    simp only [hwt, mul_one, ← EReal.coe_mul]
    rw [← coe_sum, ← coe_sum, hE, max_eq_left (EReal.coe_le_coe_iff.mpr (le_trans ?_ hW)), div_real _ _ hWpos.ne']
    refine hle.trans ?_
    rw [Real.exp_neg, one_div]
    refine inv_anti₀ (Real.exp_pos _) ?_
    calc Real.exp 29 = Real.exp 1 ^ 29 := by rw [← Real.exp_nat_mul]; norm_num
      _ ≤ 4 ^ 29 := pow_le_pow_left₀ (Real.exp_pos _).le exp_one_le _
      _ ≤ _ := by norm_num
  have hR : attR (fun t => (a t : EReal)) μ (fun t => (v t : EReal)) = (((∑ t, w t * v t) / ∑ t, w t : ℝ) : EReal) := by
    unfold attR
    rw [hM]
    simp only [hex]
    rw [← coe_sum, ← Finset.sum_mul]
    have hD : (∑ t, w t) * Real.exp (-M) ≠ 0 := (mul_pos hWpos (Real.exp_pos _)).ne'
    simp only [div_real _ _ hD, ← EReal.coe_mul]
    rw [← coe_sum, Finset.sum_div]
    congr 1
    refine Finset.sum_congr rfl fun t _ => ?_
    rw [mul_div_mul_right _ _ (Real.exp_pos _).ne', div_mul_eq_mul_div]
  exact ⟨hK.trans hR.symm, by rw [hR]; exact IsReal.coe _⟩

/-- The feed-forward part's activation, tanh's form of the Gaussian error linear unit. -/
def gelu (a : EReal) : EReal :=
  a * (Ideal.ofBits .f32 0x3F000000#32 * (1 + Ideal.tanh (Ideal.ofBits .f32 0x3F4C422A#32 *
    (a + Ideal.ofBits .f32 0x3D372713#32 * (a * (a * a))))))

/-- One hidden unit before the activation. -/
def hid (h : Fin 1024 → EReal) (w1 : Fin 1024 → Fin 2048 → EReal) (b1 : Fin 2048 → EReal) (x : Fin 2048) : EReal :=
  ∑ d, h d * w1 d x + b1 x

/-- The feed-forward part without its last shift. -/
def ffn (h : Fin 1024 → EReal) (w1 : Fin 1024 → Fin 2048 → EReal) (b1 : Fin 2048 → EReal) (w2 : Fin 2048 → Fin 1024 → EReal)
    (c : Fin 1024) : EReal :=
  ∑ x, gelu (hid h w1 b1 x) * w2 x c

/-- The rows after the attention's residual sum: the input plus the projected heads. -/
def resid (x : EReal) (o : Fin 1024 → EReal) (wo : Fin 1024 → EReal) : EReal := x + ∑ e, o e * wo e

end Cert.Rows

end
-- ==== Proof.Spec.lean ====
/- One batch of the block as the kernel computes it and as the reference computes it, over the extended reals, and their
   equality: the input rows, weights and mask are functions of their coordinates. -/
module

public import proofs.«01_k».proof.Proof.Rows

@[expose] public section

noncomputable section

namespace Cert.Rows

open Idealize.ShloMosaic

/-- Column `c` of the 64 columns of head `h`. -/
abbrev hcol (h : Fin 16) (c : Fin 64) : Fin 1024 := ⟨64 * h.val + c.val, by omega⟩
/-- A projection of the normalised rows. -/
def proj (H : Fin 2048 → Fin 1024 → EReal) (W : Fin 1024 → Fin 1024 → EReal) (s : Fin 2048) (e : Fin 1024) : EReal :=
  ∑ d, H s d * W d e

/-- The kernel's score of key `t` for query `s` in head `h`: the scale is on the query, and is that of base two. -/
def scoreK (H : Fin 2048 → Fin 1024 → EReal) (Wq Wk : Fin 1024 → Fin 1024 → EReal) (s : Fin 2048) (h : Fin 16) (t : Fin 2048) : EReal :=
  ∑ e : Fin 64, (proj H Wq s (hcol h e) * (((8 * (Real.log 2))⁻¹ : ℝ) : EReal)) * proj H Wk t (hcol h e)

/-- The reference's score: the product of query and key over the root of the head's width. -/
def scoreR (H : Fin 2048 → Fin 1024 → EReal) (Wq Wk : Fin 1024 → Fin 1024 → EReal) (s : Fin 2048) (h : Fin 16) (t : Fin 2048) : EReal :=
  Ideal.div (∑ e : Fin 64, proj H Wq s (hcol h e) * proj H Wk t (hcol h e)) (Ideal.sqrt (Ideal.ofBits .f32 0x42800000#32))

/-- The head of column `e`. -/
abbrev head (e : Fin 1024) : Fin 16 := ⟨e.val / 64, by omega⟩

/-- The kernel's attention at query `s` and column `e`. -/
def oK (H : Fin 2048 → Fin 1024 → EReal) (Wq Wk Wv : Fin 1024 → Fin 1024 → EReal) (μ : Fin 2048 → EReal) (s : Fin 2048) (e : Fin 1024) : EReal :=
  attK (scoreK H Wq Wk s (head e)) μ (fun t => proj H Wv t e) (fun _ => 1)

/-- The reference's attention at query `s` and column `e`. -/
def oR (H : Fin 2048 → Fin 1024 → EReal) (Wq Wk Wv : Fin 1024 → Fin 1024 → EReal) (μ : Fin 2048 → EReal) (s : Fin 2048) (e : Fin 1024) : EReal :=
  attR (scoreR H Wq Wk s (head e)) μ (fun t => proj H Wv t e)

/-- The kernel's row after the feed-forward part and its residual sum. -/
def outK (xo g2 b2 : Fin 1024 → EReal) (w1 : Fin 1024 → Fin 2048 → EReal) (c1 : Fin 2048 → EReal) (w2 : Fin 2048 → Fin 1024 → EReal)
    (c2 : Fin 1024 → EReal) (c : Fin 1024) : EReal := xo c + ffn (lnK xo g2 b2) w1 c1 w2 c + c2 c

/-- The reference's. -/
def outR (xo g2 b2 : Fin 1024 → EReal) (w1 : Fin 1024 → Fin 2048 → EReal) (c1 : Fin 2048 → EReal) (w2 : Fin 2048 → Fin 1024 → EReal)
    (c2 : Fin 1024 → EReal) (c : Fin 1024) : EReal := xo c + (ffn (lnR xo g2 b2) w1 c1 w2 c + c2 c)

/-- After equal rows of real numbers the two agree, whatever the feed-forward part's weights. -/
theorem out_eq (xo g2 b2 : Fin 1024 → EReal) (w1 : Fin 1024 → Fin 2048 → EReal) (c1 : Fin 2048 → EReal) (w2 : Fin 2048 → Fin 1024 → EReal)
    (c2 : Fin 1024 → EReal) (c : Fin 1024) (hx : ∀ d, IsReal (xo d)) : outK xo g2 b2 w1 c1 w2 c2 c = outR xo g2 b2 w1 c1 w2 c2 c := by
  unfold outK outR
  rw [show lnK xo g2 b2 = lnR xo g2 b2 from funext fun d => ln_eq xo g2 b2 hx d, add_assoc]

theorem proj_real (H : Fin 2048 → Fin 1024 → EReal) (W : Fin 1024 → Fin 1024 → EReal) (hH : ∀ s d, IsReal (H s d))
    (hW : ∀ d e, IsReal (W d e)) (s : Fin 2048) (e : Fin 1024) : IsReal (proj H W s e) :=
  IsReal.sum _ _ fun d => (hH s d).mul (hW d e)

/-- The printed root of the head's width is eight. -/
theorem sqrt_64 : Ideal.sqrt (Ideal.ofBits .f32 0x42800000#32) = ((8 : ℝ) : EReal) := by
  rw [lit_64, Ideal.sqrt_coe, if_neg (by norm_num), show (64 : ℝ) = 8 * 8 by norm_num, Real.sqrt_mul_self (by norm_num)]

/-- Real scores: the reference's is a real number, the kernel's that number over the logarithm of two. -/
theorem score_real (H : Fin 2048 → Fin 1024 → EReal) (Wq Wk : Fin 1024 → Fin 1024 → EReal) (hH : ∀ s d, IsReal (H s d))
    (hq : ∀ d e, IsReal (Wq d e)) (hk : ∀ d e, IsReal (Wk d e)) (s : Fin 2048) (h : Fin 16) (t : Fin 2048) :
    ∃ a : ℝ, scoreR H Wq Wk s h t = (a : EReal) ∧ scoreK H Wq Wk s h t = ((a / Real.log 2 : ℝ) : EReal) := by
  choose q hq using fun e => proj_real H Wq hH hq s (hcol h e)
  choose k hk using fun e => proj_real H Wk hH hk t (hcol h e)
  refine ⟨(∑ e, q e * k e) / 8, ?_, ?_⟩
  · unfold scoreR
    simp only [hq, hk, ← EReal.coe_mul]
    rw [sqrt_64, ← coe_sum, div_real _ _ (by norm_num)]
  · unfold scoreK
    simp only [hq, hk, ← EReal.coe_mul]
    rw [← coe_sum]
    congr 1
    rw [mul_inv, Finset.sum_div, Finset.sum_div]
    exact Finset.sum_congr rfl fun e _ => by ring

/-- The two attentions agree, and are real, where the scores stay within ±29 and every query has a key that is not masked. -/
theorem o_eq (H : Fin 2048 → Fin 1024 → EReal) (Wq Wk Wv : Fin 1024 → Fin 1024 → EReal) (μ : Fin 2048 → EReal) (s : Fin 2048) (e : Fin 1024)
    (hH : ∀ s d, IsReal (H s d)) (hq : ∀ d e, IsReal (Wq d e)) (hk : ∀ d e, IsReal (Wk d e)) (hv : ∀ d e, IsReal (Wv d e))
    (hs : ∀ t, ((-29 : ℝ) : EReal) ≤ scoreR H Wq Wk s (head e) t ∧ scoreR H Wq Wk s (head e) t ≤ ((29 : ℝ) : EReal))
    (hμ : ∀ t, μ t = 0 ∨ μ t = ⊥) (h0 : ∃ t, μ t = 0) :
    oK H Wq Wk Wv μ s e = oR H Wq Wk Wv μ s e ∧ IsReal (oR H Wq Wk Wv μ s e) := by
  choose a ha hb using fun t => score_real H Wq Wk hH hq hk s (head e) t
  choose v hv using fun t => proj_real H Wv hH hv t e
  have hR : oR H Wq Wk Wv μ s e = attR (fun t => (a t : EReal)) μ (fun t => (v t : EReal)) := by
    unfold oR; rw [funext ha, funext hv]
  have hK : oK H Wq Wk Wv μ s e = attK (fun t => ((a t / Real.log 2 : ℝ) : EReal)) μ (fun t => (v t : EReal)) (fun _ => 1) := by
    unfold oK; rw [funext hb, funext hv]
  rw [hR, hK]
  exact att_eq a v μ (fun t => by rw [← EReal.coe_le_coe_iff, ← EReal.coe_le_coe_iff, ← ha t]; exact hs t) hμ h0

end Cert.Rows

end
-- ==== Proof.Block.lean ====
/- What the kernel's block computations are at an entry, over the extended reals, in the vocabulary of rows. -/
module

public import proofs.«01_k».proof.Proof.OutB
public import proofs.«01_k».proof.Proof.Spec
public import Idealize.ShloMosaic.Lib.Pointwise
public import Idealize.ShloMosaic.Lib.Pipeline.Value

@[expose] public section

set_option maxRecDepth 16384

noncomputable section

namespace Cert.KernelIdeal.Gen

open Idealize.ShloMosaic Cert.Rows

/-- Column `c` of the 64 value columns of head `h` among the widened values. -/
abbrev vcol (h : Fin 16) (c : Fin 64) : Fin 2048 := ⟨128 * h.val + c.val, by omega⟩
/-- Column `c` of the 64 counting columns of head `h` among the widened values. -/
abbrev ocol (h : Fin 16) (c : Fin 64) : Fin 2048 := ⟨128 * h.val + 64 + c.val, by omega⟩

/-- The projections of a normalised block, all side by side. -/
theorem pay3_apply (x : Vec Ideal S1x512x1024 .f32) (g b : Vec Ideal S1x1024 .f32) (w : Vec Ideal S1024x4096 .bf16) (r : Fin 512) (c : Fin 4096) :
    k0_pay3 x g b w (ix2 r c)
      = ∑ d : Fin 1024, lnK (fun d => x (ix3 0 r d)) (fun d => g (ix2 0 d)) (fun d => b (ix2 0 d)) d * w (ix2 d c) := by
  unfold lnK varK mean
  pointwise [k0_pay3]

/-- The queries are the first projection, scaled. -/
theorem pay4_apply (x : Vec Ideal S1x512x1024 .f32) (g b : Vec Ideal S1x1024 .f32) (w : Vec Ideal S1024x4096 .bf16) (r : Fin 512) (c : Fin 1024) :
    k0_pay4 x g b w (ix2 r c) = k0_pay3 x g b w (ix2 r ⟨c.val, by omega⟩) * (((8 * (Real.log 2))⁻¹ : ℝ) : EReal) := by
  generalize hy : k0_pay3 x g b w (ix2 r ⟨c.val, by omega⟩) = y
  unfold k0_pay4
  pointwise
  rw [hy, IdealRules.named_const.ideal_named_scalar _ _ _ _ rfl]

/-- The transposed keys are the second projection. -/
theorem pay1_apply (R : FVec Ideal S512x4096 .f32) (e : Fin 1024) (t : Fin 512) :
    k0_pay1 R (ix2 e t) = R (ix2 t ⟨1024 + e.val, by omega⟩) := by
  pointwise [k0_pay1]

/-- The widened values are the third projection plus the row that counts. -/
theorem pay2_apply (R : FVec Ideal S512x4096 .f32) (vb : Vec Ideal S1x2048 .f32) (r : Fin 512) (c : Fin 2048) :
    k0_pay2 R vb (ix2 r c) = R (ix2 r ⟨2048 + c.val, by omega⟩) + vb (ix2 0 c) := by
  pointwise [k0_pay2]

/-- The mask of a block. -/
theorem pay5_apply (x1 : Vec Ideal S1x512x2048 .f32) (r : Fin 512) (t : Fin 2048) : k0_pay5 x1 (ix2 r t) = x1 (ix3 0 r t) := by
  pointwise [k0_pay5]

/-- One head's attention, from its columns. -/
theorem pay9_apply (m : Vec Ideal S512x2048 .bf16) (q : Vec Ideal S512x64 .bf16) (k : Vec Ideal S64x2048 .bf16) (v : Vec Ideal S2048x128 .bf16) (r : Fin 512) (c : Fin 64) :
    k0_pay9 m q k v (ix2 r c)
      = attK (fun t => ∑ e : Fin 64, q (ix2 r e) * k (ix2 e t)) (fun t => m (ix2 r t)) (fun t => v (ix2 t ⟨c.val, by omega⟩))
          (fun t => v (ix2 t ⟨64 + c.val, by omega⟩)) := by
  unfold attK wt
  pointwise [k0_pay9]
  rfl

/-- One head's attention, from the block's queries, the transposed keys and the widened values. -/
theorem headB_apply (m : FVec Ideal S512x2048 .bf16) (q : Vec Ideal S512x1024 .bf16) (kt : Vec Ideal S1024x2048 .bf16)
    (v : Vec Ideal S2048x2048 .bf16) (h : Fin 16) (r : Fin 512) (c : Fin 64) :
    headB m q kt v h (ix2 r c)
      = attK (fun t => ∑ e : Fin 64, q (ix2 r (hcol h e)) * kt (ix2 (hcol h e) t)) (fun t => m (ix2 r t))
          (fun t => v (ix2 t (vcol h c))) (fun t => v (ix2 t (ocol h c))) := by
  unfold headB
  rw [pay9_apply]
  have hq : ∀ e : Fin 64, extractStridedSlice S512x64 ![0, 64 * h.val] q (qcols h) (ix2 r e) = q (ix2 r (hcol h e)) := fun e =>
    congrArg q (funext fun a => Fin.ext (by
      match a with
      | ⟨0, _⟩ => exact Nat.zero_add _
      | ⟨1, _⟩ => rfl))
  have hk : ∀ (e : Fin 64) (t : Fin 2048), VecWindow.window kt ![64 * h.val, 0] S64x2048.size (krows h) (ix2 e t) = kt (ix2 (hcol h e) t) :=
    fun e t => congrArg kt (funext fun a => Fin.ext (by
      match a with
      | ⟨0, _⟩ => show 64 * h.val + 1 * e.val = 64 * h.val + e.val; omega
      | ⟨1, _⟩ => show 0 + 1 * t.val = t.val; omega))
  have hv : ∀ (t : Fin 2048) (e : Fin 128), VecWindow.window v ![0, 128 * h.val] S2048x128.size (vcols h) (ix2 t e)
      = v (ix2 t ⟨128 * h.val + e.val, by omega⟩) :=
    fun t e => congrArg v (funext fun a => Fin.ext (by
      match a with
      | ⟨0, _⟩ => show 0 + 1 * t.val = t.val; omega
      | ⟨1, _⟩ => show 128 * h.val + 1 * e.val = 128 * h.val + e.val; omega))
  simp only [hq, hk, hv, vcol, ocol, Nat.add_assoc]

/-- The sixteen heads side by side. -/
def catH (o : Fin 16 → FVec Ideal S512x64 .f32) : FVec Ideal S512x1024 .f32 :=
  concatenate S512x1024 1 (List.ofFn fun h : Fin 16 => (⟨S512x64, o h⟩ : (s : Shape) × (s.Idx → EReal)))
    concatenates_S512x64_S512x64_S512x64_S512x64_S512x64_S512x64_S512x64_S512x64_S512x64_S512x64_S512x64_S512x64_S512x64_S512x64_S512x64_S512x64_S512x1024_d1

/-- Column `e` lies in head `e / 64`. -/
theorem catH_apply (o : Fin 16 → FVec Ideal S512x64 .f32) (r : Fin 512) (e : Fin 1024) :
    catH o (ix2 r e) = o ⟨e.val / 64, by omega⟩ (ix2 r ⟨e.val % 64, Nat.mod_lt _ (by norm_num)⟩) :=
  concatenate_ofFn_apply (t := S512x1024) (s₁ := S512x64) 1 o _ rfl 64 rfl (ix2 r e) ⟨e.val / 64, by omega⟩ rfl
    (ix2 r ⟨e.val % 64, Nat.mod_lt _ (by norm_num)⟩) rfl (fun b hb => by
      match b with
      | ⟨0, _⟩ => rfl
      | ⟨1, _⟩ => exact absurd rfl hb)

/-- The block's rows after the attention, with the heads gathered. -/
theorem xoB_eq (x0 : Vec Ideal S1x512x1024 .f32) (mask : FVec Ideal S512x2048 .bf16) (q : Vec Ideal S512x1024 .bf16)
    (kt : Vec Ideal S1024x2048 .bf16) (v : Vec Ideal S2048x2048 .bf16) (wo : Vec Ideal S1024x1024 .bf16) :
    xoB x0 mask q kt v wo = addf (shapeCast S512x1024 x0 shapeCasts_S1x512x1024_S512x1024)
      (matmul (φ₂ := .bf16) dot_S512x1024_S1024x1024_S512x1024_1_0_0_1_n_n none (truncf .bf16 (catH (headB mask q kt v)) bitsLt_bf16_f32)
        (shapeCast S1024x1024 wo shapeCasts_S1024x1024_S1024x1024) (constant S512x1024 .f32 0x00000000#32)) := rfl

/-- The rows after the attention's residual sum. -/
theorem xoB_apply (x0 : Vec Ideal S1x512x1024 .f32) (mask : FVec Ideal S512x2048 .bf16) (q : Vec Ideal S512x1024 .bf16)
    (kt : Vec Ideal S1024x2048 .bf16) (v : Vec Ideal S2048x2048 .bf16) (wo : Vec Ideal S1024x1024 .bf16) (r : Fin 512) (c : Fin 1024) :
    xoB x0 mask q kt v wo (ix2 r c)
      = resid (x0 (ix3 0 r c))
          (fun e => headB mask q kt v ⟨e.val / 64, by omega⟩ (ix2 r ⟨e.val % 64, Nat.mod_lt _ (by norm_num)⟩))
          (fun e => wo (ix2 e c)) := by
  unfold resid
  simp only [← catH_apply]
  rw [xoB_eq]
  generalize catH (headB mask q kt v) = H
  pointwise

/-- The block of the result: the second layer norm, the feed-forward part and the second residual sum. -/
theorem outB_apply (x0 : Vec Ideal S1x512x1024 .f32) (x1 : Vec Ideal S1x512x2048 .f32) (wo : Vec Ideal S1024x1024 .bf16)
    (g2 b2 : Vec Ideal S1x1024 .f32) (w1 : Vec Ideal S1024x2048 .bf16) (bias1 : Vec Ideal S1x2048 .f32)
    (w2 : Vec Ideal S2048x1024 .bf16) (bias2 : Vec Ideal S1x1024 .f32)
    (q : Vec Ideal S512x1024 .bf16) (kt : Vec Ideal S1024x2048 .bf16) (v : Vec Ideal S2048x2048 .bf16) (r : Fin 512) (c : Fin 1024) :
    outB x0 x1 wo g2 b2 w1 bias1 w2 bias2 q kt v (ix3 0 r c)
      = xoB x0 (k0_pay5 x1) q kt v wo (ix2 r c)
        + ffn (lnK (fun d => xoB x0 (k0_pay5 x1) q kt v wo (ix2 r d)) (fun d => g2 (ix2 0 d)) (fun d => b2 (ix2 0 d)))
            (fun d x => w1 (ix2 d x)) (fun x => bias1 (ix2 0 x)) (fun x c => w2 (ix2 x c)) c
        + bias2 (ix2 0 c) := by
  unfold outB
  generalize xoB x0 (k0_pay5 x1) q kt v wo = X
  unfold ffn gelu hid lnK varK mean
  pointwise [k0_pay35, k0_pay30, k0_pay31, varB, cenB, muB]

end Cert.KernelIdeal.Gen

end
-- ==== Proof.Inputs.lean ====
/- What the kernel's windows hold at each point, in terms of the arguments as launched: the rows of the input and the mask, and
   the weights that the host lays side by side. -/
module

public import proofs.«01_k».proof.Proof.Array
public import proofs.«01_k».proof.Proof.Block
public import Idealize.ShloMosaic.Lib.StableHlo.ReadAt

@[expose] public section

set_option maxRecDepth 16384

noncomputable section

namespace Cert.KernelIdeal.Gen

open Idealize.ShloMosaic Idealize.ShloMosaic.TcCoe Cert.Rows
variable (m : (ℓ : Loc nD τ sig) → Buf (Elt Ideal) ℓ) (c : Dev nD)

/-! The arguments as launched. -/

def a0 : Vec Ideal S4x2048x1024 .f32 := m ((c : Thread nD τ).loc main_arg0)
def a1 : Vec Ideal S4x1x2048x2048 .f32 := m ((c : Thread nD τ).loc main_arg1)
def a2 : Vec Ideal S1024x1024 .f32 := m ((c : Thread nD τ).loc main_arg2)
def a3 : Vec Ideal S1024x1024 .f32 := m ((c : Thread nD τ).loc main_arg3)
def a4 : Vec Ideal S1024x1024 .f32 := m ((c : Thread nD τ).loc main_arg4)
def a5 : Vec Ideal S1024x1024 .f32 := m ((c : Thread nD τ).loc main_arg5)
def a6 : Vec Ideal S1024 .f32 := m ((c : Thread nD τ).loc main_arg6)
def a7 : Vec Ideal S1024 .f32 := m ((c : Thread nD τ).loc main_arg7)
def a8 : Vec Ideal S1024 .f32 := m ((c : Thread nD τ).loc main_arg8)
def a9 : Vec Ideal S1024 .f32 := m ((c : Thread nD τ).loc main_arg9)
def a10 : Vec Ideal S1024x2048 .f32 := m ((c : Thread nD τ).loc main_arg10)
def a11 : Vec Ideal S2048 .f32 := m ((c : Thread nD τ).loc main_arg11)
def a12 : Vec Ideal S2048x1024 .f32 := m ((c : Thread nD τ).loc main_arg12)
def a13 : Vec Ideal S1024 .f32 := m ((c : Thread nD τ).loc main_arg13)

/-! The arrays that the host prepares. -/

def w9 : Vec Ideal S1024x4096 .bf16 := V m c main_v9
def w7 : Vec Ideal S1x2048 .f32 := V m c main_v7
def w10 : Vec Ideal S1x1024 .f32 := V m c main_v10
def w11 : Vec Ideal S1x1024 .f32 := V m c main_v11
def w12 : Vec Ideal S1x1024 .f32 := V m c main_v12
def w13 : Vec Ideal S1x1024 .f32 := V m c main_v13
def w14 : Vec Ideal S1x2048 .f32 := V m c main_v14
def w15 : Vec Ideal S1x1024 .f32 := V m c main_v15
def w16 : Vec Ideal S4x2048x2048 .f32 := V m c main_v16
def w17 : Vec Ideal S1024x1024 .bf16 := V m c main_v17
def w18 : Vec Ideal S1024x2048 .bf16 := V m c main_v18
def w19 : Vec Ideal S2048x1024 .bf16 := V m c main_v19

/-- The widened weights: the queries' columns, -/
theorem w9_q (d j : Fin 1024) : w9 m c (ix2 d ⟨j.val, by omega⟩) = a2 m c (ix2 d j) := by
  unfold a2 w9 V
  after_reads_at
  after_reads_at
/-- the keys', -/
theorem w9_k (d j : Fin 1024) : w9 m c (ix2 d ⟨1024 + j.val, by omega⟩) = a3 m c (ix2 d j) := by
  unfold a3 w9 V
  after_reads_at
  after_reads_at
/-- each head's values', -/
theorem w9_v (d : Fin 1024) (h : Fin 16) (j : Fin 64) : w9 m c (ix2 d ⟨2048 + (vcol h j).val, by omega⟩) = a4 m c (ix2 d (hcol h j)) := by
  unfold a4 w9 V
  after_reads_at
  rw [dif_neg (by omega), dif_neg (by omega)]
  after_reads_at
  rw [dif_pos (by omega)]
  after_reads_at
  exact congrArg (fun z => (m ((c : Thread nD τ).loc main_arg4) : Vec Ideal S1024x1024 .f32) (ix2 d z)) (Fin.ext (by simp only [hcol]; omega))
/-- and each head's 64 columns of zeros. -/
theorem w9_o (d : Fin 1024) (h : Fin 16) (j : Fin 64) : w9 m c (ix2 d ⟨2048 + (ocol h j).val, by omega⟩) = 0 := by
  unfold w9 V
  after_reads_at
  rw [dif_neg (by omega), dif_neg (by omega)]
  after_reads_at
  rw [dif_neg (by omega)]
  after_reads_at
/-- The row that counts is zero in the values' columns -/
theorem w7_v (h : Fin 16) (j : Fin 64) : w7 m c (ix2 0 (vcol h j)) = 0 := by
  unfold w7 V
  after_reads_at
  rw [dif_pos (by omega)]
  after_reads_at
/-- and one in the others. -/
theorem w7_o (h : Fin 16) (j : Fin 64) : w7 m c (ix2 0 (ocol h j)) = 1 := by
  unfold w7 V
  after_reads_at
  rw [dif_neg (by omega)]
  after_reads_at
/-- The mask without its unit axis. -/
theorem w16_apply (b : Fin 4) (r : Fin 2048) (s : Fin 2048) : w16 m c (Idealize.ShloMosaic.ix3 b r s) = a1 m c (ix4 b 0 r s) := by
  unfold a1 w16 V
  after_reads_at

/-! Vectors as rows, and weights cast. -/

theorem w10_apply (d : Fin 1024) : w10 m c (ix2 0 d) = a6 m c (ix1 d) := by
  unfold a6 w10 V
  after_reads_at
theorem w11_apply (d : Fin 1024) : w11 m c (ix2 0 d) = a7 m c (ix1 d) := by
  unfold a7 w11 V
  after_reads_at
theorem w12_apply (d : Fin 1024) : w12 m c (ix2 0 d) = a8 m c (ix1 d) := by
  unfold a8 w12 V
  after_reads_at
theorem w13_apply (d : Fin 1024) : w13 m c (ix2 0 d) = a9 m c (ix1 d) := by
  unfold a9 w13 V
  after_reads_at
theorem w14_apply (d : Fin 2048) : w14 m c (ix2 0 d) = a11 m c (ix1 d) := by
  unfold a11 w14 V
  after_reads_at
theorem w15_apply (d : Fin 1024) : w15 m c (ix2 0 d) = a13 m c (ix1 d) := by
  unfold a13 w15 V
  after_reads_at
theorem w17_apply (d : Fin 1024) (e : Fin 1024) : w17 m c (ix2 d e) = a5 m c (ix2 d e) := by
  unfold a5 w17 V
  after_reads_at
theorem w18_apply (d : Fin 1024) (e : Fin 2048) : w18 m c (ix2 d e) = a10 m c (ix2 d e) := by
  unfold a10 w18 V
  after_reads_at
theorem w19_apply (d : Fin 2048) (e : Fin 1024) : w19 m c (ix2 d e) = a12 m c (ix2 d e) := by
  unfold a12 w19 V
  after_reads_at

/-! The windows' blocks. -/

theorem lt32 (t : Fin cfg0.N) : t.val < 32 := lt_of_lt_of_eq t.isLt N_eq

theorem idx0 : ∀ t : Fin cfg0.N, win0_0.index t 0 = t.val / 8 ∧ win0_0.index t 1 = t.val % 4 ∧ win0_0.index t 2 = 0 :=
  (by decide +kernel : ∀ t : Fin grid0.N, win0_0.index t 0 = t.val / 8 ∧ win0_0.index t 1 = t.val % 4 ∧ win0_0.index t 2 = 0)
theorem idx1 : ∀ t : Fin cfg0.N, win0_1.index t 0 = t.val / 8 ∧ win0_1.index t 1 = t.val % 8 - 4 ∧ win0_1.index t 2 = 0 :=
  (by decide +kernel : ∀ t : Fin grid0.N, win0_1.index t 0 = t.val / 8 ∧ win0_1.index t 1 = t.val % 8 - 4 ∧ win0_1.index t 2 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)
theorem idx10 : ∀ t : Fin cfg0.N, win0_10.index t 0 = 0 ∧ win0_10.index t 1 = 0 :=
  (by decide +kernel : ∀ t : Fin grid0.N, win0_10.index t 0 = 0 ∧ win0_10.index t 1 = 0)
theorem idx11 : ∀ t : Fin cfg0.N, win0_11.index t 0 = 0 ∧ win0_11.index t 1 = 0 :=
  (by decide +kernel : ∀ t : Fin grid0.N, win0_11.index t 0 = 0 ∧ win0_11.index t 1 = 0)
theorem idx12 : ∀ t : Fin cfg0.N, win0_12.index t 0 = 0 ∧ win0_12.index t 1 = 0 :=
  (by decide +kernel : ∀ t : Fin grid0.N, win0_12.index t 0 = 0 ∧ win0_12.index t 1 = 0)

/-- The block of the input: 512 rows of one batch. -/
theorem iblk0 (t : Fin cfg0.N) (r : Fin 512) (d : Fin 1024) :
    (iblk m c 0 t : Vec Ideal S1x512x1024 .f32) (Idealize.ShloMosaic.ix3 0 r d)
      = a0 m c (Idealize.ShloMosaic.ix3 ⟨t.val / 8, by have := lt32 t; omega⟩ ⟨512 * (t.val % 4) + r.val, by omega⟩ d) := by
  have e : a0 m c = V m c main_arg0 := (V_main_arg0 m c).symm
  rw [e]
  blk_ext [iblk, idx0 t]
/-- The block of the mask: the same rows in the second phase. -/
theorem iblk1 (t : Fin cfg0.N) (r : Fin 512) (s : Fin 2048) :
    (iblk m c 1 t : Vec Ideal S1x512x2048 .f32) (Idealize.ShloMosaic.ix3 0 r s)
      = w16 m c (Idealize.ShloMosaic.ix3 ⟨t.val / 8, by have := lt32 t; omega⟩ ⟨512 * (t.val % 8 - 4) + r.val, by omega⟩ s) := by
  unfold w16
  blk_ext [iblk, idx1 t]
theorem iblk2 (t : Fin cfg0.N) (d : Fin 1024) (j : Fin 4096) : (iblk m c 2 t : Vec Ideal S1024x4096 .bf16) (ix2 d j) = w9 m c (ix2 d j) := by
  unfold w9
  blk_ext [iblk, idx2 t]
theorem iblk3 (t : Fin cfg0.N) (d : Fin 1) (j : Fin 2048) : (iblk m c 3 t : Vec Ideal S1x2048 .f32) (ix2 d j) = w7 m c (ix2 d j) := by
  unfold w7
  blk_ext [iblk, idx3 t]
theorem iblk4 (t : Fin cfg0.N) (d : Fin 1) (j : Fin 1024) : (iblk m c 4 t : Vec Ideal S1x1024 .f32) (ix2 d j) = w10 m c (ix2 d j) := by
  unfold w10
  blk_ext [iblk, idx4 t]
theorem iblk5 (t : Fin cfg0.N) (d : Fin 1) (j : Fin 1024) : (iblk m c 5 t : Vec Ideal S1x1024 .f32) (ix2 d j) = w11 m c (ix2 d j) := by
  unfold w11
  blk_ext [iblk, idx5 t]
theorem iblk6 (t : Fin cfg0.N) (d : Fin 1024) (j : Fin 1024) : (iblk m c 6 t : Vec Ideal S1024x1024 .bf16) (ix2 d j) = w17 m c (ix2 d j) := by
  unfold w17
  blk_ext [iblk, idx6 t]
theorem iblk7 (t : Fin cfg0.N) (d : Fin 1) (j : Fin 1024) : (iblk m c 7 t : Vec Ideal S1x1024 .f32) (ix2 d j) = w12 m c (ix2 d j) := by
  unfold w12
  blk_ext [iblk, idx7 t]
theorem iblk8 (t : Fin cfg0.N) (d : Fin 1) (j : Fin 1024) : (iblk m c 8 t : Vec Ideal S1x1024 .f32) (ix2 d j) = w13 m c (ix2 d j) := by
  unfold w13
  blk_ext [iblk, idx8 t]
theorem iblk9 (t : Fin cfg0.N) (d : Fin 1024) (j : Fin 2048) : (iblk m c 9 t : Vec Ideal S1024x2048 .bf16) (ix2 d j) = w18 m c (ix2 d j) := by
  unfold w18
  blk_ext [iblk, idx9 t]
theorem iblk10 (t : Fin cfg0.N) (d : Fin 1) (j : Fin 2048) : (iblk m c 10 t : Vec Ideal S1x2048 .f32) (ix2 d j) = w14 m c (ix2 d j) := by
  unfold w14
  blk_ext [iblk, idx10 t]
theorem iblk11 (t : Fin cfg0.N) (d : Fin 2048) (j : Fin 1024) : (iblk m c 11 t : Vec Ideal S2048x1024 .bf16) (ix2 d j) = w19 m c (ix2 d j) := by
  unfold w19
  blk_ext [iblk, idx11 t]
theorem iblk12 (t : Fin cfg0.N) (d : Fin 1) (j : Fin 1024) : (iblk m c 12 t : Vec Ideal S1x1024 .f32) (ix2 d j) = w15 m c (ix2 d j) := by
  unfold w15
  blk_ext [iblk, idx12 t]

end Cert.KernelIdeal.Gen

end
-- ==== Proof.Kernel.lean ====
/- The result's array at an entry, in the vocabulary of rows: what the kernel computes of the arguments as launched. -/
module

public import proofs.«01_k».proof.Proof.Inputs

@[expose] public section

set_option maxRecDepth 16384

noncomputable section

namespace Cert.KernelIdeal.Gen

open Idealize.ShloMosaic Idealize.ShloMosaic.TcCoe Cert.Rows
variable (m : (ℓ : Loc nD τ sig) → Buf (Elt Ideal) ℓ) (c : Dev nD)

/-- Row `s` of the input of batch `b`. -/
def xrow (b : Fin 4) (s : Fin 2048) (d : Fin 1024) : EReal := a0 m c (Idealize.ShloMosaic.ix3 b s d)
/-- The row normalised as the kernel does. -/
def hrow (b : Fin 4) (s : Fin 2048) : Fin 1024 → EReal := lnK (xrow m c b s) (fun d => a6 m c (ix1 d)) (fun d => a7 m c (ix1 d))
/-- A weight matrix by its coordinates. -/
abbrev mat {n k : ℕ} (w : Vec Ideal ⟨2, ![n, k]⟩ .f32) (d : Fin n) (e : Fin k) : EReal := w (ix2 d e)
/-- The mask's row of query `s`. -/
def mrow (b : Fin 4) (s t : Fin 2048) : EReal := a1 m c (ix4 b 0 s t)

/-- Point `j` of batch `b`, as a number. -/
theorem pt_val (b : Fin 4) (j : ℕ) (hj : j < 8) : (pt b.val j).val = 8 * b.val + j := by
  show min (8 * b.val + j) 31 = _
  omega

/-- What the projection of a block of rows holds: all of one batch's rows, in order. -/
theorem proj_apply (b : Fin 4) (s : Fin 2048) (j : Fin 4096) :
    k0_pay3 (iblk m c 0 (pt b.val (s.val / 512))) (iblk m c 4 (pt b.val (s.val / 512))) (iblk m c 5 (pt b.val (s.val / 512)))
        (iblk m c 2 (pt b.val (s.val / 512))) (ix2 ⟨s.val % 512, Nat.mod_lt _ (by norm_num)⟩ j)
      = ∑ d, hrow m c b s d * w9 m c (ix2 d j) := by
  rw [pay3_apply]
  have hv := pt_val b (s.val / 512) (by omega)
  have hx : ∀ d, (iblk m c 0 (pt b.val (s.val / 512)) : Vec Ideal S1x512x1024 .f32)
      (Idealize.ShloMosaic.ix3 0 ⟨s.val % 512, Nat.mod_lt _ (by norm_num)⟩ d) = xrow m c b s d := fun d => by
    rw [iblk0]
    unfold xrow
    congr 2
    · exact Fin.ext (by simp only [hv]; omega)
    · exact Fin.ext (by simp only [hv]; omega)
  simp only [hx, iblk2, iblk4, iblk5, w10_apply, w11_apply]
  rfl

/-- The queries that the second phase reads. -/
theorem q_apply (b : Fin 4) (s : Fin 2048) (e : Fin 1024) :
    qBlk m c (pt b.val (s.val / 512)) (ix2 ⟨s.val % 512, Nat.mod_lt _ (by norm_num)⟩ e)
      = proj (hrow m c b) (mat (a2 m c)) s e * (((8 * (Real.log 2))⁻¹ : ℝ) : EReal) := by
  unfold qBlk proj mat
  rw [pay4_apply, proj_apply]
  exact congrArg (· * _) (Finset.sum_congr rfl fun d _ => by rw [w9_q])

/-- The keys, transposed. -/
theorem k_apply (b : Fin 4) (s : Fin 2048) (e : Fin 1024) :
    kAll m c b.val (ix2 e s) = proj (hrow m c b) (mat (a3 m c)) s e := by
  show kBlk m c (pt b.val (s.val / 512)) (ix2 e ⟨s.val % 512, Nat.mod_lt _ (by norm_num)⟩) = _
  unfold kBlk proj mat
  rw [pay1_apply, proj_apply]
  exact Finset.sum_congr rfl fun d _ => by rw [w9_k]

theorem v_row (b : Fin 4) (s : Fin 2048) (j : Fin 2048) :
    vAll m c b.val (ix2 s j) = ∑ d, hrow m c b s d * w9 m c (ix2 d ⟨2048 + j.val, by omega⟩) + w7 m c (ix2 0 j) := by
  show vBlk m c (pt b.val (s.val / 512)) (ix2 ⟨s.val % 512, Nat.mod_lt _ (by norm_num)⟩ j) = _
  unfold vBlk
  rw [pay2_apply, proj_apply, iblk3]

/-- The values, in the value columns of each head, -/
theorem v_apply (b : Fin 4) (s : Fin 2048) (h : Fin 16) (j : Fin 64) :
    vAll m c b.val (ix2 s (vcol h j)) = proj (hrow m c b) (mat (a4 m c)) s (hcol h j) := by
  unfold proj mat
  rw [v_row, w7_v, add_zero]
  exact Finset.sum_congr rfl fun d _ => by rw [w9_v]

/-- and ones in its other columns. -/
theorem one_apply (b : Fin 4) (s : Fin 2048) (h : Fin 16) (j : Fin 64) : vAll m c b.val (ix2 s (ocol h j)) = 1 := by
  rw [v_row, w7_o]
  rw [Finset.sum_eq_zero fun d _ => by rw [w9_o, mul_zero], zero_add]

/-- The rows after the attention's residual sum, as the kernel computes them. -/
def xoK (b : Fin 4) (s : Fin 2048) (d : Fin 1024) : EReal :=
  resid (xrow m c b s d) (oK (hrow m c b) (mat (a2 m c)) (mat (a3 m c)) (mat (a4 m c)) (mrow m c b s) s) (fun e => mat (a5 m c) e d)

/-- The result at an entry. -/
theorem outArr_apply (b : Fin 4) (s : Fin 2048) (d : Fin 1024) :
    outArr m c (Idealize.ShloMosaic.ix3 b s d)
      = outK (xoK m c b s) (fun d => a8 m c (ix1 d)) (fun d => a9 m c (ix1 d)) (mat (a10 m c)) (fun x => a11 m c (ix1 x))
          (mat (a12 m c)) (fun d => a13 m c (ix1 d)) d := by
  have hv := pt_val b (4 + s.val / 512) (by omega)
  have hb : (pt b.val (4 + s.val / 512)).val / 8 = b.val := by omega
  have hs : (pt b.val (4 + s.val / 512)).val % 8 - 4 = s.val / 512 := by omega
  have hs4 : (pt b.val (4 + s.val / 512)).val % 4 = s.val / 512 := by omega
  show oBlk m c (pt b.val (4 + s.val / 512)) (Idealize.ShloMosaic.ix3 0 ⟨s.val % 512, Nat.mod_lt _ (by norm_num)⟩ d) = _
  generalize hr : (⟨s.val % 512, Nat.mod_lt _ (by norm_num)⟩ : Fin 512) = r
  have hrv : r.val = s.val % 512 := by rw [← hr]
  have hx : ∀ d, (iblk m c 0 (pt b.val (4 + s.val / 512)) : Vec Ideal S1x512x1024 .f32) (Idealize.ShloMosaic.ix3 0 r d) = xrow m c b s d := fun d => by
    rw [iblk0]
    unfold xrow
    congr 2
    · exact Fin.ext hb
    · exact Fin.ext (by simp only [hs4, hrv]; omega)
  have hm : ∀ t, k0_pay5 (iblk m c 1 (pt b.val (4 + s.val / 512))) (ix2 r t) = mrow m c b s t := fun t => by
    rw [pay5_apply, iblk1, w16_apply]
    unfold mrow
    congr 2
    · exact Fin.ext hb
    · exact Fin.ext (by simp only [hs, hrv]; omega)
  have hO : ∀ e : Fin 1024, headB (k0_pay5 (iblk m c 1 (pt b.val (4 + s.val / 512)))) (qBlk m c (pt b.val (s.val / 512))) (kAll m c b.val)
      (vAll m c b.val) ⟨e.val / 64, by omega⟩ (ix2 r ⟨e.val % 64, Nat.mod_lt _ (by norm_num)⟩)
      = oK (hrow m c b) (mat (a2 m c)) (mat (a3 m c)) (mat (a4 m c)) (mrow m c b s) s e := fun e => by
    have he : hcol (head e) ⟨e.val % 64, Nat.mod_lt _ (by norm_num)⟩ = e := Fin.ext (Nat.div_add_mod _ _)
    have hq : ∀ e, qBlk m c (pt b.val (s.val / 512)) (ix2 r e)
        = proj (hrow m c b) (mat (a2 m c)) s e * (((8 * (Real.log 2))⁻¹ : ℝ) : EReal) := fun e => by rw [← hr]; exact q_apply m c b s e
    rw [headB_apply]
    exact attK_congr (fun t => Finset.sum_congr rfl fun e' _ => by rw [hq, k_apply]) hm (fun t => by rw [v_apply, he])
      (fun t => one_apply m c b t _ _)
  have hxo : ∀ d, xoB (iblk m c 0 (pt b.val (4 + s.val / 512))) (k0_pay5 (iblk m c 1 (pt b.val (4 + s.val / 512))))
      (qBlk m c (pt b.val (s.val / 512))) (kAll m c b.val) (vAll m c b.val)
      (iblk m c 6 (pt b.val (4 + s.val / 512))) (ix2 r d) = xoK m c b s d := fun d => by
    rw [xoB_apply, hx]
    exact congr (congrArg (resid (xrow m c b s d)) (funext hO)) (funext fun e => by rw [iblk6, w17_apply])
  unfold oBlk
  rw [hb, hs, outB_apply]
  simp only [hxo, iblk7, iblk8, iblk9, iblk10, iblk11, iblk12, w12_apply, w13_apply, w14_apply, w15_apply, w18_apply, w19_apply]
  rfl

end Cert.KernelIdeal.Gen

end
-- ==== Proof.BitsConds.lean ====
/- For the kernel at any values: how the arguments are read off a run's result, and what the runs of the body are stated over
   (the two branch conditions in closed form, the staging and scratch memrefs, the launch's invariant). Nothing here, nor in the
   three modules after it, says what the kernel computes: only that it ends, and what it leaves alone. -/
module

public import proofs.«01_k».proof.Proof.Gen.Kernel.Frame
public import proofs.«01_k».proof.Proof.Gen.Kernel.Skeleton

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A run after which every input array of the pipeline, and every buffer it does not stage, holds what it held where the
    pipeline was entered leaves every argument as launched. -/
theorem args_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) h

/-! ## The body's branch conditions -/

/-- The condition of the body's `scf.if` 0 from the grid coordinates. -/
abbrev cond0_0 (i : grid0.Coords) : Prop := k0_cond1 i = 1#1
/-- It holds at the points whose coordinates have i1 ≤ 3 — decided over the grid. -/
theorem hcond0_0 : ∀ t : Fin cfg0.N, cond0_0 (grid0.coords t) ↔ t.val % 8 ≤ 3 :=
  (by decide +kernel : ∀ t : Fin grid0.N, cond0_0 (grid0.coords t) ↔ t.val % 8 ≤ 3)

/-- The condition of the body's `scf.if` 1 from the grid coordinates. -/
abbrev cond0_1 (i : grid0.Coords) : Prop := k0_cond2 i = 1#1
/-- It holds at the points whose coordinates have 4 ≤ i1 — decided over the grid. -/
theorem hcond0_1 : ∀ t : Fin cfg0.N, cond0_1 (grid0.coords t) ↔ 4 ≤ t.val % 8 :=
  (by decide +kernel : ∀ t : Fin grid0.N, cond0_1 (grid0.coords t) ↔ 4 ≤ t.val % 8)

/-! ## The input windows are never idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl

/-! ## The staging and scratch memrefs -/

/-- Each window's current staging memref at point `t`, and that it is whole. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x2048 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2048x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512x1024 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S2048x1024 .bf16 := Memref.whole cc0_scratch0
abbrev scM0_1 : Memref sig .tc .vmem S1024x2048 .bf16 := Memref.whole cc0_scratch1
abbrev scM0_2 : Memref sig .tc .vmem S2048x2048 .bf16 := Memref.whole cc0_scratch2

/-- The launch's invariant: the scratch operands owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.BitsRunA.lean ====
/- The kernel's body at the grid points of the first half of a batch row. -/
module

public import proofs.«01_k».proof.Proof.BitsConds

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the first branch is taken and the second is not: given the inputs' buffers at their contents and the output's
    and the scratch buffers at anything, it runs, leaves the inputs' buffers as they were and the others at some contents. -/
theorem kernelRun0_A (c : Dev nD) (i : grid0.Coords) (arg2 : Memref sig .tc .vmem S1x512x1024 .f32) (harg2 : arg2.IsWhole) (arg3 : Memref sig .tc .vmem S1x512x2048 .f32) (harg3 : arg3.IsWhole) (arg4 : Memref sig .tc .vmem S1024x4096 .bf16) (harg4 : arg4.IsWhole) (arg5 : Memref sig .tc .vmem S1x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x2048 .bf16) (harg11 : arg11.IsWhole) (arg12 : Memref sig .tc .vmem S1x2048 .f32) (harg12 : arg12.IsWhole) (arg13 : Memref sig .tc .vmem S2048x1024 .bf16) (harg13 : arg13.IsWhole) (arg14 : Memref sig .tc .vmem S1x1024 .f32) (harg14 : arg14.IsWhole) (arg15 : Memref sig .tc .vmem S1x512x1024 .f32) (harg15 : arg15.IsWhole) (arg16 : Memref sig .tc .vmem S2048x1024 .bf16) (harg16 : arg16.IsWhole) (arg17 : Memref sig .tc .vmem S1024x2048 .bf16) (harg17 : arg17.IsWhole) (arg18 : Memref sig .tc .vmem S2048x2048 .bf16) (harg18 : arg18.IsWhole) (hc0 : cond0_0 i) (hc1 : ¬cond0_1 i)
    (x0 : Vec F S1x512x1024 .f32) (x1 : Vec F S1x512x2048 .f32) (x2 : Vec F S1024x4096 .bf16) (x3 : Vec F S1x2048 .f32) (x4 : Vec F S1x1024 .f32) (x5 : Vec F S1x1024 .f32) (x6 : Vec F S1024x1024 .bf16) (x7 : Vec F S1x1024 .f32) (x8 : Vec F S1x1024 .f32) (x9 : Vec F S1024x2048 .bf16) (x10 : Vec F S1x2048 .f32) (x11 : Vec F S2048x1024 .bf16) (x12 : Vec F S1x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0__fused_body_eq_skeleton]; unfold cc0__fused_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _, _; isplitr; swap; · iexact H13
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.BitsRunB.lean ====
/- The kernel's body at the grid points of the second half of a batch row. -/
module

public import proofs.«01_k».proof.Proof.BitsConds

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the second branch is taken and the first is not: given the inputs' buffers at their contents and the output's
    and the scratch buffers at anything, it runs, leaves the inputs' buffers as they were and the others at some contents. -/
theorem kernelRun0_B (c : Dev nD) (i : grid0.Coords) (arg2 : Memref sig .tc .vmem S1x512x1024 .f32) (harg2 : arg2.IsWhole) (arg3 : Memref sig .tc .vmem S1x512x2048 .f32) (harg3 : arg3.IsWhole) (arg4 : Memref sig .tc .vmem S1024x4096 .bf16) (harg4 : arg4.IsWhole) (arg5 : Memref sig .tc .vmem S1x2048 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x2048 .bf16) (harg11 : arg11.IsWhole) (arg12 : Memref sig .tc .vmem S1x2048 .f32) (harg12 : arg12.IsWhole) (arg13 : Memref sig .tc .vmem S2048x1024 .bf16) (harg13 : arg13.IsWhole) (arg14 : Memref sig .tc .vmem S1x1024 .f32) (harg14 : arg14.IsWhole) (arg15 : Memref sig .tc .vmem S1x512x1024 .f32) (harg15 : arg15.IsWhole) (arg16 : Memref sig .tc .vmem S2048x1024 .bf16) (harg16 : arg16.IsWhole) (arg17 : Memref sig .tc .vmem S1024x2048 .bf16) (harg17 : arg17.IsWhole) (arg18 : Memref sig .tc .vmem S2048x2048 .bf16) (harg18 : arg18.IsWhole) (hc0 : ¬cond0_0 i) (hc1 : cond0_1 i)
    (x0 : Vec F S1x512x1024 .f32) (x1 : Vec F S1x512x2048 .f32) (x2 : Vec F S1024x4096 .bf16) (x3 : Vec F S1x2048 .f32) (x4 : Vec F S1x1024 .f32) (x5 : Vec F S1x1024 .f32) (x6 : Vec F S1024x1024 .bf16) (x7 : Vec F S1x1024 .f32) (x8 : Vec F S1x1024 .f32) (x9 : Vec F S1024x2048 .bf16) (x10 : Vec F S1x2048 .f32) (x11 : Vec F S2048x1024 .bf16) (x12 : Vec F S1x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0__fused_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0__fused_body_eq_skeleton]; unfold cc0__fused_body_skel
    simp only [k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _, _; isplitr; swap; · iexact H13
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Gen

end
-- ==== Proof.BitsFrame.lean ====
/- The kernel at any values: from any memory it ends, with its arguments as launched and every counter at zero. -/
module

public import proofs.«01_k».proof.Proof.BitsRunA
public import proofs.«01_k».proof.Proof.BitsRunB
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The one output window, of which nothing is said. -/
def forgets0 : Fin 14 → Bool := fun w => w.val == 13

/-- The proof data of the pipeline on core `c`: the arrays as the region finds them; after the body at point `t` each input's
    buffer at its block and the output's at nothing named; the invariant the scratch buffers and the generator register. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]

/-- Each input's current buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- What the body leaves in each input's buffer. -/
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
theorem leaves0_9 (c : Dev nD) (t : Fin cfg0.N) : (dats m 0 c).leavesExact 9 t = owns (c : Thread nD τ) (ms0_9 t) fullShare (iblk m c 9 t) := by
  unfold Dat.leavesExact; rw [liveAt0_9 t, after0_9]
theorem leaves0_10 (c : Dev nD) (t : Fin cfg0.N) : (dats m 0 c).leavesExact 10 t = owns (c : Thread nD τ) (ms0_10 t) fullShare (iblk m c 10 t) := by
  unfold Dat.leavesExact; rw [liveAt0_10 t, after0_10]
theorem leaves0_11 (c : Dev nD) (t : Fin cfg0.N) : (dats m 0 c).leavesExact 11 t = owns (c : Thread nD τ) (ms0_11 t) fullShare (iblk m c 11 t) := by
  unfold Dat.leavesExact; rw [liveAt0_11 t, after0_11]
theorem leaves0_12 (c : Dev nD) (t : Fin cfg0.N) : (dats m 0 c).leavesExact 12 t = owns (c : Thread nD τ) (ms0_12 t) fullShare (iblk m c 12 t) := by
  unfold Dat.leavesExact; rw [liveAt0_12 t, after0_12]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (∃ d, owns (c : Thread nD τ) (ms0_13 t) fullShare d))

set_option maxHeartbeats 3200000 in
/-- The body at any point: the inputs' buffers hold their blocks, the point says which branch is taken, and that branch's run
    takes the scratch buffers at some contents and hands them back at some. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, leaves0_0, leaves0_1, leaves0_2, leaves0_3, leaves0_4, leaves0_5, leaves0_6, leaves0_7, leaves0_8, leaves0_9, leaves0_10, leaves0_11, leaves0_12]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 32 := lt_of_lt_of_eq t.isLt (show cfg0.N = 32 from N_0)
  by_cases h0 : t.val % 8 ≤ 3
  · by_cases h1 : 4 ≤ t.val % 8
    · exfalso; omega
    · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_A c (grid0.coords t) _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [HS0]; · iexact HS0
      isplitl [HS1]; · iexact HS1
      isplitl [HS2]; · iexact HS2
      iintro ⟨H0, H1, H2, H3, H4, H5, H6, H7, H8, H9, H10, H11, H12, H13, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
  · by_cases h1 : 4 ≤ t.val % 8
    · iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_B c (grid0.coords t) _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [HS0]; · iexact HS0
      isplitl [HS1]; · iexact HS1
      isplitl [HS2]; · iexact HS2
      iintro ⟨H0, H1, H2, H3, H4, H5, H6, H7, H8, H9, H10, H11, H12, H13, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · exfalso; omega

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's triple at every point, as the pipeline asks for it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The whole run: every buffer but the output array as it was, every semaphore counter zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  args_of m ρ (fun c => (dats m 0 c).toRForget forgets0) (A_eq m) (run_main m ρ)

/-- The kernel ends with its arguments as launched and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.Kernel.Gen

end
-- ==== Proof.Frames.lean ====
/- The claims that do not speak of values: each program terminates with its arguments as launched and its counters at zero,
   and the named constant stands for the literal it replaces. -/
module

public import proofs.«01_k».proof.Defs
public import proofs.«01_k».proof.Proof.Array
public import proofs.«01_k».proof.Proof.BitsFrame
public import proofs.«01_k».proof.Proof.Gen.ReferenceIdeal
public import proofs.«01_k».proof.Proof.Gen.ReferenceIdeal.Run
public import proofs.«01_k».proof.Proof.Gen.Pre_clamp_inactive

@[expose] public section

noncomputable section

namespace Cert.Proof

open Idealize.ShloMosaic Idealize.SL.Sem

/-- The kernel, at the values the machine computes with. -/
theorem frame_p : Cert.quiescent_Kernel := fun m ρ _ => Cert.Kernel.Gen.frame m ρ

/-- The kernel with the constant named, at exact values. -/
theorem frame_pi : Cert.quiescent_KernelIdeal := fun m ρ _ =>
  θ_run_and (Cert.KernelIdeal.Gen.frame_of m ρ (Cert.KernelIdeal.Gen.dats m) (Cert.KernelIdeal.Gen.A_eq m)
    ((θ_run _ _ _).mono (fun _ h => h.1) (Cert.KernelIdeal.Gen.run_main m ρ))) (Cert.KernelIdeal.Gen.run_sem m ρ)

/-- The same where the precondition holds. -/
theorem frame_pi_pre : Cert.quiescent_KernelIdeal_pre_clamp_inactive := fun m ρ _ => frame_pi m ρ trivial

/-- The reference, at exact values. -/
theorem frame_ri : Cert.quiescent_ReferenceIdeal := fun m ρ _ =>
  (θ_run _ _ _).mono (fun r h => ⟨fun c => (h c).2, sem_eq_zero_of_no_sems (by decide) r.2⟩) (Cert.ReferenceIdeal.Value.run m ρ)

/-- The same where the precondition holds. -/
theorem frame_ri_pre : Cert.quiescent_ReferenceIdeal_pre_clamp_inactive := fun m ρ _ => frame_ri m ρ trivial

/-- The literal is the real number named in its place, rounded. -/
theorem preserves : Cert.preserves_Kernel_KernelIdeal :=
  IdealRules.named_const.statement Cert.KernelIdeal.κ "log2e_over_8" .f32 0x3E38AA3B#32 _ rfl

end Cert.Proof

end
-- ==== Proof.RowMax.lean ====
/- The host's maximum over the last of four axes, at an entry. -/
module

public import Idealize.ShloMosaic.Lib.Pointwise

@[expose] public section

noncomputable section

namespace Cert.Rows

open Idealize.ShloMosaic

/-- A maximum over the last axis is, at an entry, the fold of `max` along that axis from the initial value. -/
theorem max_apply {n0 n1 n2 n3 : ℕ} {u : Shape} (v : Vec Ideal ⟨4, ![n0, n1, n2, n3]⟩ .f32) (c : Vec Ideal u .f32)
    (hr : (⟨4, ![n0, n1, n2, n3]⟩ : Shape).ReducesTo [3] ⟨3, ![n0, n1, n2]⟩) (hu : 0 < u.numel) (b : Fin n0) (h : Fin n1) (s : Fin n2) :
    Host.reduce (FloatOps.maximumf (F := Ideal) (φ := .f32)) v c hr hu (ix3 b h s)
      = Finset.univ.fold max (c (Shape.Idx.first hu)) fun t => v (ix4 b h s t) := by
  rw [Host.reduce_eq_fold, Shape.ReducesTo.fold_fiber_r4_a3]
  rfl

end Cert.Rows

end
-- ==== Proof.Reference.lean ====
/- The reference's result at an entry, in the vocabulary of rows. -/
module

public import proofs.«01_k».proof.Proof.Spec
public import proofs.«01_k».proof.Proof.Gen.ReferenceIdeal.Read
public import proofs.«01_k».proof.Proof.RowMax

@[expose] public section

set_option maxRecDepth 16384

noncomputable section

namespace Cert.ReferenceIdeal.Read

open Idealize.ShloMosaic Cert.Rows Cert.ReferenceIdeal.Gen

/-- The mean of a row. -/
theorem mean_apply (x : Vec Ideal S4x2048x1024 .f32) (b : Fin 4) (s : Fin 2048) :
    val_main_v3 (F := Ideal) x (ix3 b s 0) = mean (fun d => x (ix3 b s d)) := by
  unfold mean
  pointwise [val_main_v3, val_main_v2, val_main_v1, val_main_v0, val_main_cst, val_main_cst_0]

/-- The variance's divisor is the row's length. -/
theorem count_apply (i) : val_main_call0_v8 (F := Ideal) i = Ideal.ofBits .f32 0x44800000#32 := by
  pointwise [val_main_call0_v8, val_main_call0_v7, val_main_call0_cst_1, val_main_c]
  show Ideal.ofBits .f32 0x44800000#32 - (((0#32).toInt : ℝ) : EReal) = _
  simp

/-- The variance of a row. -/
theorem var_apply (x : Vec Ideal S4x2048x1024 .f32) (b : Fin 4) (s : Fin 2048) :
    val_main_v4 (F := Ideal) x (ix3 b s 0) = varR (fun d => x (ix3 b s d)) := by
  unfold varR mean
  pointwise [val_main_v4, val_main_call0_v13, val_main_call0_v12, val_main_call0_v11, val_main_call0_v10, val_main_call0_v9,
    val_main_call0_v6, val_main_call0_v5, val_main_call0_v4, val_main_call0_v3, val_main_call0_v2, val_main_call0_v1,
    val_main_call0_v0, val_main_call0_cst, val_main_call0_cst_0, val_main_call0_cst_2, val_main_call0_cst_3]
  rw [count_apply, if_pos (by rw [lit_1024]; exact_mod_cast (by norm_num : (0 : ℝ) < 1024))]

/-- The layer norm of a row. -/
theorem ln_apply (x : Vec Ideal S4x2048x1024 .f32) (g be : Vec Ideal S1024 .f32) (b : Fin 4) (s : Fin 2048) (d : Fin 1024) :
    val_main_v17 (F := Ideal) x g be (ix3 b s d) = lnR (fun d => x (ix3 b s d)) (fun d => g (ix1 d)) (fun d => be (ix1 d)) d := by
  unfold lnR
  rw [← mean_apply, ← var_apply]
  pointwise [val_main_v17, val_main_v16, val_main_v15, val_main_v14, val_main_v13, val_main_v12, val_main_v11, val_main_v10, val_main_v9,
    val_main_v8, val_main_v7, val_main_v6, val_main_v5, val_main_cst_1]

variable (x0 : Vec Ideal S4x2048x1024 .f32) (x1 : Vec Ideal S4x1x2048x2048 .f32) (x2 x3 x4 x5 : Vec Ideal S1024x1024 .f32)
  (x6 x7 x8 x9 : Vec Ideal S1024 .f32) (x10 : Vec Ideal S1024x2048 .f32) (x11 : Vec Ideal S2048 .f32) (x12 : Vec Ideal S2048x1024 .f32)
  (x13 : Vec Ideal S1024 .f32)

/-- The normalised rows of batch `b`. -/
def hR (b : Fin 4) (s : Fin 2048) : Fin 1024 → EReal := lnR (fun d => x0 (ix3 b s d)) (fun d => x6 (ix1 d)) (fun d => x7 (ix1 d))

/-- A projection of the normalised rows. -/
theorem proj_apply (w : Vec Ideal S1024x1024 .f32) (b : Fin 4) (s : Fin 2048) (e : Fin 1024) :
    val_main_v18 (F := Ideal) x0 w x6 x7 (ix3 b s e) = proj (hR x0 x6 x7 b) (fun d e => w (ix2 d e)) s e := by
  unfold proj hR
  simp only [← ln_apply]
  pointwise [val_main_v18]

theorem q_apply (b : Fin 4) (h : Fin 16) (s : Fin 2048) (e : Fin 64) :
    val_main_v20 (F := Ideal) x0 x2 x6 x7 (ix4 b h s e) = proj (hR x0 x6 x7 b) (fun d e => x2 (ix2 d e)) s (hcol h e) := by
  rw [← proj_apply]
  pointwise [val_main_v20, val_main_v19]
  exact congrArg (fun e => val_main_v18 (F := Ideal) x0 x2 x6 x7 (ix3 b s e)) (Fin.ext (by simp; omega))

theorem k_eq : val_main_v23 (F := Ideal) x0 x3 x6 x7 = val_main_v20 (F := Ideal) x0 x3 x6 x7 := rfl
theorem v_eq : val_main_v26 (F := Ideal) x0 x4 x6 x7 = val_main_v20 (F := Ideal) x0 x4 x6 x7 := rfl

/-- The scores. -/
theorem score_apply (b : Fin 4) (h : Fin 16) (s t : Fin 2048) :
    val_main_v30 (F := Ideal) x0 x2 x3 x6 x7 (ix4 b h s t)
      = scoreR (hR x0 x6 x7 b) (fun d e => x2 (ix2 d e)) (fun d e => x3 (ix2 d e)) s h t := by
  unfold scoreR
  simp only [← q_apply]
  pointwise [val_main_v30, val_main_v29, val_main_v28, val_main_v27, val_main_cst_2, k_eq]

/-- The largest score. -/
theorem top_apply (b : Fin 4) (h : Fin 16) (s : Fin 2048) :
    val_main_v35 (F := Ideal) x0 x1 x2 x3 x6 x7 (ix3 b h s)
      = top (fun t => val_main_v30 (F := Ideal) x0 x2 x3 x6 x7 (ix4 b h s t)) (fun t => x1 (ix4 b 0 s t)) := by
  have hm : ∀ t, val_main_v32 (F := Ideal) x0 x1 x2 x3 x6 x7 (ix4 b h s t)
      = val_main_v30 (F := Ideal) x0 x2 x3 x6 x7 (ix4 b h s t) + x1 (ix4 b 0 s t) := fun t => by
    pointwise [val_main_v32, val_main_v31]
  have hr : val_main_v33 (F := Ideal) x0 x1 x2 x3 x6 x7 (ix3 b h s)
      = Finset.univ.fold max (Ideal.ofBits .f32 0xFF800000#32)
          fun t => val_main_v30 (F := Ideal) x0 x2 x3 x6 x7 (ix4 b h s t) + x1 (ix4 b 0 s t) := by
    unfold val_main_v33
    rw [max_apply, funext hm]
    rfl
  rw [val_main_v35_apply, hr, lit_neg_inf]
  unfold top
  rw [← lit_neg_inf]
  rfl

/-- One head's attention. -/
theorem att_apply (b : Fin 4) (h : Fin 16) (s : Fin 2048) (e : Fin 64) :
    val_main_v44 (F := Ideal) x0 x1 x2 x3 x4 x6 x7 (ix4 b h s e)
      = attR (scoreR (hR x0 x6 x7 b) (fun d e => x2 (ix2 d e)) (fun d e => x3 (ix2 d e)) s h) (fun t => x1 (ix4 b 0 s t))
          (fun t => proj (hR x0 x6 x7 b) (fun d e => x4 (ix2 d e)) t (hcol h e)) := by
  unfold attR
  rw [show scoreR (hR x0 x6 x7 b) (fun d e => x2 (ix2 d e)) (fun d e => x3 (ix2 d e)) s h
    = fun t => val_main_v30 (F := Ideal) x0 x2 x3 x6 x7 (ix4 b h s t) from funext fun t => (score_apply _ _ _ _ _ _ _ _ _).symm]
  rw [← top_apply]
  simp only [← q_apply]
  pointwise [val_main_v44, v_eq, val_main_v43, val_main_v42, val_main_v41, val_main_v40, val_main_v39, val_main_v38, val_main_v37, val_main_v36,
    val_main_v32, val_main_v31, val_main_cst_5]

/-- The rows after the attention's residual sum, as the reference computes them. -/
def xoR (b : Fin 4) (s : Fin 2048) (d : Fin 1024) : EReal :=
  resid (x0 (ix3 b s d)) (oR (hR x0 x6 x7 b) (fun d e => x2 (ix2 d e)) (fun d e => x3 (ix2 d e)) (fun d e => x4 (ix2 d e))
    (fun t => x1 (ix4 b 0 s t)) s) (fun e => x5 (ix2 e d))

theorem o_apply (b : Fin 4) (s : Fin 2048) (e : Fin 1024) :
    val_main_v46 (F := Ideal) x0 x1 x2 x3 x4 x6 x7 (ix3 b s e)
      = oR (hR x0 x6 x7 b) (fun d e => x2 (ix2 d e)) (fun d e => x3 (ix2 d e)) (fun d e => x4 (ix2 d e)) (fun t => x1 (ix4 b 0 s t)) s e := by
  have he : hcol (head e) ⟨e.val % 64, Nat.mod_lt _ (by norm_num)⟩ = e := Fin.ext (Nat.div_add_mod _ _)
  have := att_apply x0 x1 x2 x3 x4 x6 x7 b (head e) s ⟨e.val % 64, Nat.mod_lt _ (by norm_num)⟩
  rw [he] at this
  unfold oR
  rw [← this]
  pointwise [val_main_v46, val_main_v45]

theorem resid_apply (b : Fin 4) (s : Fin 2048) (d : Fin 1024) :
    val_main_v48 (F := Ideal) x0 x1 x2 x3 x4 x5 x6 x7 (ix3 b s d) = xoR x0 x1 x2 x3 x4 x5 x6 x7 b s d := by
  unfold xoR resid
  simp only [← o_apply]
  pointwise [val_main_v48, val_main_v47]

/-- The second layer norm is the first one's text on other rows. -/
theorem ln2_eq : val_main_v66 (F := Ideal) x0 x1 x2 x3 x4 x5 x6 x7 x8 x9
    = val_main_v17 (F := Ideal) (val_main_v48 (F := Ideal) x0 x1 x2 x3 x4 x5 x6 x7) x8 x9 := rfl

/-- A hidden unit. -/
theorem hid_apply (b : Fin 4) (s x : Fin 2048) :
    val_main_v70 (F := Ideal) x0 x1 x2 x3 x4 x5 x6 x7 x8 x9 x10 x11 (ix3 b s x)
      = hid (lnR (xoR x0 x1 x2 x3 x4 x5 x6 x7 b s) (fun d => x8 (ix1 d)) (fun d => x9 (ix1 d))) (fun d x => x10 (ix2 d x)) (fun x => x11 (ix1 x)) x := by
  have h : ∀ d, lnR (xoR x0 x1 x2 x3 x4 x5 x6 x7 b s) (fun d => x8 (ix1 d)) (fun d => x9 (ix1 d)) d
      = val_main_v66 (F := Ideal) x0 x1 x2 x3 x4 x5 x6 x7 x8 x9 (ix3 b s d) := fun d => by
    rw [ln2_eq, ln_apply, funext fun d => resid_apply x0 x1 x2 x3 x4 x5 x6 x7 b s d]
  unfold hid
  simp only [h]
  pointwise [val_main_v70, val_main_v69, val_main_v68, val_main_v67]

/-- The result at an entry. -/
theorem out_apply (b : Fin 4) (s : Fin 2048) (d : Fin 1024) :
    val_main_v88 (F := Ideal) x0 x1 x2 x3 x4 x5 x6 x7 x8 x9 x10 x11 x12 x13 (ix3 b s d)
      = outR (xoR x0 x1 x2 x3 x4 x5 x6 x7 b s) (fun d => x8 (ix1 d)) (fun d => x9 (ix1 d)) (fun d x => x10 (ix2 d x)) (fun x => x11 (ix1 x))
          (fun x c => x12 (ix2 x c)) (fun d => x13 (ix1 d)) d := by
  have cube : ∀ a : EReal, a * (a * a) = a * a * a := fun a => mul_comm _ _
  unfold outR ffn gelu
  simp only [← hid_apply, ← resid_apply, cube]
  pointwise [val_main_v88, val_main_v87, val_main_v86, val_main_v85, val_main_v84, val_main_v83, val_main_v82, val_main_v81, val_main_v80,
    val_main_v79, val_main_v78, val_main_v77, val_main_v76, val_main_v75, val_main_v74, val_main_v73, val_main_v72, val_main_v71,
    val_main_cst_10, val_main_cst_11, val_main_cst_12, val_main_cst_13]

end Cert.ReferenceIdeal.Read

end
-- ==== Proof.Domain.lean ====
/- What the precondition says of the arguments, entry by entry. -/
module

public import proofs.«01_k».proof.Proof.Reference
public import proofs.«01_k».proof.Proof.Gen.Pre_clamp_inactive

@[expose] public section

set_option maxRecDepth 16384

noncomputable section

namespace Cert.Rows

open Idealize.ShloMosaic

/-- A comparison's bit is set exactly when the comparison holds. -/
theorem bit_of {p : Bool} (h : BitVec.ofBool p = 1#1) : p = true := by cases p <;> simp_all
theorem bit_and {p q : BitVec 1} (h : p &&& q = 1#1) : p = 1#1 ∧ q = 1#1 := by revert p q; decide
theorem bit_or {p q : BitVec 1} (h : p ||| q = 1#1) : p = 1#1 ∨ q = 1#1 := by revert p q; decide

/-- An entry whose absolute value is below infinity is a real number. -/
theorem real_of_cmp {x : EReal} (h : Ideal.cmp .olt (max x (-x)) (Ideal.ofBits .f32 0x7F800000#32) = 1#1) : IsReal x := by
  have h := of_decide_eq_true (bit_of h)
  rw [lit_inf] at h
  refine IsReal.of_abs_lt ⟨?_, ?_⟩ <;> rintro rfl <;> simp at h

end Cert.Rows

namespace Cert.Pre_clamp_inactive

open Idealize.ShloMosaic Cert.Rows Cert.Pre_clamp_inactive.Gen Cert.ReferenceIdeal.Read

variable (x0 : Vec Ideal S4x2048x1024 .f32) (x1 : Vec Ideal S4x1x2048x2048 .f32) (x2 x3 x4 x5 : Vec Ideal S1024x1024 .f32)
  (x6 x7 x8 x9 : Vec Ideal S1024 .f32) (x10 : Vec Ideal S1024x2048 .f32) (x11 : Vec Ideal S2048 .f32) (x12 : Vec Ideal S2048x1024 .f32)
  (x13 : Vec Ideal S1024 .f32)

/-- The arguments' domain: real inputs, weights and first layer-norm parameters; a mask of zeros and negative infinities with a zero in
every row; scores within ±29. -/
structure Domain : Prop where
  x : ∀ i, IsReal (x0 i)
  wq : ∀ i, IsReal (x2 i)
  wk : ∀ i, IsReal (x3 i)
  wv : ∀ i, IsReal (x4 i)
  wo : ∀ i, IsReal (x5 i)
  g : ∀ i, IsReal (x6 i)
  b : ∀ i, IsReal (x7 i)
  mask : ∀ i, x1 i = 0 ∨ x1 i = ⊥
  row : ∀ b s, ∃ t, x1 (ix4 b 0 s t) = 0
  score : ∀ b h s t, ((-29 : ℝ) : EReal) ≤ val_main_v30 (F := Ideal) x0 x2 x3 x6 x7 (ix4 b h s t)
    ∧ val_main_v30 (F := Ideal) x0 x2 x3 x6 x7 (ix4 b h s t) ≤ ((29 : ℝ) : EReal)

/-- A mask entry that passes its test is zero or negative infinity. -/
theorem mask_of (h : (fn (F := Ideal) x0 x1 x2 x3 x4 x5 x6 x7 x8 x9 x10 x11 x12 x13).2.2.2.2.2.2.2.1 = fun _ => 1#1) (i) :
    x1 i = 0 ∨ x1 i = ⊥ := by
  have e : Ideal.cmp .oeq (x1 i) (Ideal.ofBits .f32 0x00000000#32) ||| Ideal.cmp .oeq (x1 i) (Ideal.ofBits .f32 0xFF800000#32) = 1#1 := congrFun h i
  rcases bit_or e with e | e
  · exact Or.inl ((of_decide_eq_true (bit_of e)).trans (by simp [Ideal.ofBits, Ideal.ieee]))
  · exact Or.inr ((of_decide_eq_true (bit_of e)).trans lit_neg_inf)

/-- A mask row whose maximum is zero has a zero in it. -/
theorem row_of (hm : ∀ i, x1 i = 0 ∨ x1 i = ⊥)
    (h : (fn (F := Ideal) x0 x1 x2 x3 x4 x5 x6 x7 x8 x9 x10 x11 x12 x13).2.2.2.2.2.2.2.2.1 = fun _ => 1#1) (b : Fin 4) (s : Fin 2048) :
    ∃ t, x1 (ix4 b 0 s t) = 0 := by
  have hf : (fn (F := Ideal) x0 x1 x2 x3 x4 x5 x6 x7 x8 x9 x10 x11 x12 x13).2.2.2.2.2.2.2.2.1
      = cmpf .oeq (Host.reduce (FloatOps.maximumf (F := Ideal) (φ := .f32)) x1 (constant S_ .f32 0xFF800000#32)
          Gen.reducesTo_S4x1x2048x2048_S4x1x2048_d3 Gen.h_S_)
        (broadcastInDim S4x1x2048 ![] Gen.bcast_S_S4x1x2048 (constant S_ .f32 0x00000000#32)) := rfl
  have e := congrFun (hf.symm.trans h) (ix3 b 0 s)
  rw [ValueIdx.cmpf_apply, max_apply] at e
  have e := of_decide_eq_true (bit_of e)
  by_contra hn
  have hb : (fun t => x1 (ix4 b 0 s t)) = fun _ => ⊥ := funext fun t => (hm _).resolve_left fun h0 => hn ⟨t, h0⟩
  rw [hb] at e
  have hle : Finset.univ.fold max (Ideal.ofBits .f32 0xFF800000#32) (fun _ : Fin 2048 => (⊥ : EReal)) ≤ ⊥ :=
    (Finset.fold_max_le _).2 ⟨lit_neg_inf.le, fun _ _ => le_rfl⟩
  have e0 : Finset.univ.fold max (Ideal.ofBits .f32 0xFF800000#32) (fun _ : Fin 2048 => (⊥ : EReal)) = 0 :=
    e.trans (show Ideal.ofBits .f32 0x00000000#32 = 0 by simp [Ideal.ofBits, Ideal.ieee])
  rw [e0] at hle
  simp at hle

/-- A score that passes its test lies within ±29. -/
theorem score_of (h : (fn (F := Ideal) x0 x1 x2 x3 x4 x5 x6 x7 x8 x9 x10 x11 x12 x13).2.2.2.2.2.2.2.2.2 = fun _ => 1#1) (i) :
    ((-29 : ℝ) : EReal) ≤ val_main_v30 (F := Ideal) x0 x2 x3 x6 x7 i ∧ val_main_v30 (F := Ideal) x0 x2 x3 x6 x7 i ≤ ((29 : ℝ) : EReal) := by
  have e : Ideal.cmp .oge (val_main_v30 (F := Ideal) x0 x2 x3 x6 x7 i) (Ideal.ofBits .f32 0xC1E80000#32)
      &&& Ideal.cmp .ole (val_main_v30 (F := Ideal) x0 x2 x3 x6 x7 i) (Ideal.ofBits .f32 0x41E80000#32) = 1#1 := congrFun h i
  have e := bit_and e
  exact ⟨lit_neg29 ▸ of_decide_eq_true (bit_of e.1), lit_29 ▸ of_decide_eq_true (bit_of e.2)⟩

/-- The precondition's ten tests put the arguments in the domain. -/
theorem domain_of
    (h : (fn (F := Ideal) x0 x1 x2 x3 x4 x5 x6 x7 x8 x9 x10 x11 x12 x13).1 = (fun _ => 1#1)
      ∧ (fn (F := Ideal) x0 x1 x2 x3 x4 x5 x6 x7 x8 x9 x10 x11 x12 x13).2.1 = (fun _ => 1#1)
      ∧ (fn (F := Ideal) x0 x1 x2 x3 x4 x5 x6 x7 x8 x9 x10 x11 x12 x13).2.2.1 = (fun _ => 1#1)
      ∧ (fn (F := Ideal) x0 x1 x2 x3 x4 x5 x6 x7 x8 x9 x10 x11 x12 x13).2.2.2.1 = (fun _ => 1#1)
      ∧ (fn (F := Ideal) x0 x1 x2 x3 x4 x5 x6 x7 x8 x9 x10 x11 x12 x13).2.2.2.2.1 = (fun _ => 1#1)
      ∧ (fn (F := Ideal) x0 x1 x2 x3 x4 x5 x6 x7 x8 x9 x10 x11 x12 x13).2.2.2.2.2.1 = (fun _ => 1#1)
      ∧ (fn (F := Ideal) x0 x1 x2 x3 x4 x5 x6 x7 x8 x9 x10 x11 x12 x13).2.2.2.2.2.2.1 = (fun _ => 1#1)
      ∧ (fn (F := Ideal) x0 x1 x2 x3 x4 x5 x6 x7 x8 x9 x10 x11 x12 x13).2.2.2.2.2.2.2.1 = (fun _ => 1#1)
      ∧ (fn (F := Ideal) x0 x1 x2 x3 x4 x5 x6 x7 x8 x9 x10 x11 x12 x13).2.2.2.2.2.2.2.2.1 = (fun _ => 1#1)
      ∧ (fn (F := Ideal) x0 x1 x2 x3 x4 x5 x6 x7 x8 x9 x10 x11 x12 x13).2.2.2.2.2.2.2.2.2 = (fun _ => 1#1)) :
    Domain x0 x1 x2 x3 x4 x5 x6 x7 where
  x i := real_of_cmp (congrFun h.1 i)
  wq i := real_of_cmp (congrFun h.2.1 i)
  wk i := real_of_cmp (congrFun h.2.2.1 i)
  wv i := real_of_cmp (congrFun h.2.2.2.1 i)
  wo i := real_of_cmp (congrFun h.2.2.2.2.1 i)
  g i := real_of_cmp (congrFun h.2.2.2.2.2.1 i)
  b i := real_of_cmp (congrFun h.2.2.2.2.2.2.1 i)
  mask := mask_of _ _ _ _ _ _ _ _ _ _ _ _ _ _ h.2.2.2.2.2.2.2.1
  row := row_of _ _ _ _ _ _ _ _ _ _ _ _ _ _ (mask_of _ _ _ _ _ _ _ _ _ _ _ _ _ _ h.2.2.2.2.2.2.2.1) h.2.2.2.2.2.2.2.2.1
  score _ _ _ _ := score_of _ _ _ _ _ _ _ _ _ _ _ _ _ _ h.2.2.2.2.2.2.2.2.2 _

end Cert.Pre_clamp_inactive

end
-- ==== Proof.Equal.lean ====
/- On the precondition's domain the kernel's result is the reference's. -/
module

public import proofs.«01_k».proof.Proof.Kernel
public import proofs.«01_k».proof.Proof.Frames
public import proofs.«01_k».proof.Proof.Domain

@[expose] public section

set_option maxRecDepth 16384

noncomputable section

namespace Cert.KernelIdeal.Gen

open Idealize.ShloMosaic Idealize.ShloMosaic.TcCoe Cert.Rows Cert.ReferenceIdeal.Read
variable (m : (ℓ : Loc nD τ sig) → Buf (Elt Ideal) ℓ) (c : Dev nD)
  (hd : Cert.Pre_clamp_inactive.Domain (a0 m c) (a1 m c) (a2 m c) (a3 m c) (a4 m c) (a5 m c) (a6 m c) (a7 m c))

include hd

/-- The kernel normalises a row as the reference does. -/
theorem hrow_eq (b : Fin 4) : hrow m c b = hR (a0 m c) (a6 m c) (a7 m c) b :=
  funext fun _ => funext fun d => ln_eq _ _ _ (fun _ => hd.x _) d

/-- The normalised rows are real. -/
theorem hR_real (b : Fin 4) (s : Fin 2048) (d : Fin 1024) : IsReal (hR (a0 m c) (a6 m c) (a7 m c) b s d) :=
  ln_real _ _ _ (fun _ => hd.x _) (fun _ => hd.g _) (fun _ => hd.b _) d

/-- One entry of the attention's output, on both sides, and it is real. -/
theorem attention_eq (b : Fin 4) (s : Fin 2048) (e : Fin 1024) :
    oK (hrow m c b) (mat (a2 m c)) (mat (a3 m c)) (mat (a4 m c)) (mrow m c b s) s e
      = oR (hR (a0 m c) (a6 m c) (a7 m c) b) (mat (a2 m c)) (mat (a3 m c)) (mat (a4 m c)) (mrow m c b s) s e
    ∧ IsReal (oR (hR (a0 m c) (a6 m c) (a7 m c) b) (mat (a2 m c)) (mat (a3 m c)) (mat (a4 m c)) (mrow m c b s) s e) := by
  rw [hrow_eq m c hd]
  refine o_eq _ _ _ _ _ s e (hR_real m c hd b) (fun _ _ => hd.wq _) (fun _ _ => hd.wk _) (fun _ _ => hd.wv _) (fun t => ?_)
    (fun t => hd.mask _) (hd.row b s)
  have h := hd.score b (head e) s t
  rw [score_apply] at h
  exact h

/-- The rows after the attention's residual sum, on both sides. -/
theorem xo_eq (b : Fin 4) (s : Fin 2048) (d : Fin 1024) :
    xoK m c b s d = xoR (a0 m c) (a1 m c) (a2 m c) (a3 m c) (a4 m c) (a5 m c) (a6 m c) (a7 m c) b s d
    ∧ IsReal (xoK m c b s d) := by
  have h : xoK m c b s d = xoR (a0 m c) (a1 m c) (a2 m c) (a3 m c) (a4 m c) (a5 m c) (a6 m c) (a7 m c) b s d :=
    congrArg (fun o => resid (xrow m c b s d) o fun e => mat (a5 m c) e d) (funext fun e => (attention_eq m c hd b s e).1)
  refine ⟨h, h ▸ ?_⟩
  exact (hd.x _).add (IsReal.sum _ _ fun e => (attention_eq m c hd b s e).2.mul (hd.wo _))

/-- The kernel's result is the reference's. -/
theorem outArr_eq : outArr m c = val_main_v88 (F := Ideal) (a0 m c) (a1 m c) (a2 m c) (a3 m c) (a4 m c) (a5 m c) (a6 m c) (a7 m c) (a8 m c)
    (a9 m c) (a10 m c) (a11 m c) (a12 m c) (a13 m c) := by
  funext i
  obtain ⟨b, s, d, rfl⟩ : ∃ (b : Fin 4) (s : Fin 2048) (d : Fin 1024), i = Idealize.ShloMosaic.ix3 b s d :=
    ⟨i 0, i 1, i 2, funext fun a => match a with | ⟨0, _⟩ => rfl | ⟨1, _⟩ => rfl | ⟨2, _⟩ => rfl⟩
  rw [outArr_apply, out_apply, out_eq _ _ _ _ _ _ _ _ fun d => (xo_eq m c hd b s d).2, funext fun d => (xo_eq m c hd b s d).1]

end Cert.KernelIdeal.Gen

namespace Cert.Proof

open Idealize.ShloMosaic Idealize.ShloMosaic.TcCoe

/-- From launches whose arguments agree, the kernel and the reference end with one result and leave their arguments unchanged, wherever the
precondition holds. -/
theorem algebraic : Cert.algebraic_KernelIdeal_ReferenceIdeal_pre_clamp_inactive := by
  intro m g m' g' hpre hag
  refine ⟨fun c => Cert.KernelIdeal.Gen.outArr m c, ?_, ?_⟩
  · exact (θ_run _ _ _).mono (fun r h c => ⟨h.1 c, h.2 c⟩) (θ_run_and (Cert.KernelIdeal.Gen.run_result m g)
      (Cert.KernelIdeal.Gen.frame_of m g (Cert.KernelIdeal.Gen.dats m) (Cert.KernelIdeal.Gen.A_eq m)
        ((θ_run _ _ _).mono (fun _ h => h.1) (Cert.KernelIdeal.Gen.run_main m g))))
  · refine (θ_run _ _ _).mono (fun r h c => ⟨(h c).1.trans ?_, (h c).2⟩) (Cert.ReferenceIdeal.Value.run m' g')
    refine (Cert.ReferenceIdeal.Read.val_main_v88_eq _).trans ?_
    refine Eq.trans ?_ (Cert.KernelIdeal.Gen.outArr_eq m c (Cert.Pre_clamp_inactive.domain_of _ _ _ _ _ _ _ _ _ _ _ _ _ _ (hpre c))).symm
    obtain ⟨e0, e1, e2, e3, e4, e5, e6, e7, e8, e9, e10, e11, e12, e13⟩ := hag c
    have ha : ∀ b, StableHlo.launchContents m' c (Proc.devRef .tc b) = m' ((c.tc : Thread Cert.ReferenceIdeal.nD Cert.ReferenceIdeal.τ).loc b) :=
      fun b => StableHlo.launchContents_devRef m' c b
    rw [ha, ha, ha, ha, ha, ha, ha, ha, ha, ha, ha, ha, ha, ha, e0, e1, e2, e3, e4, e5, e6, e7, e8, e9, e10, e11, e12, e13]
    rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_clamp_inactive
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Pre_clamp_inactive.Gen.facts, frame_p, frame_pi,
    frame_pi_pre, frame_ri, frame_ri_pre, preserves, algebraic⟩

end Cert.Proof

end
